-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_served [hPre_served : Cert.Pre_served.Facts] (m : (ℓ : Loc Cert.KernelIdeal.nD Cert.KernelIdeal.τ Cert.KernelIdeal.sig) → Buf (Elt Ideal) ℓ) : Prop :=
  ∀ c : Dev Cert.KernelIdeal.nD,
    (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_served.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_served [hPre_served : Cert.Pre_served.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_served.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_served [hKernelIdeal : Cert.KernelIdeal.Facts] [hPre_served : Cert.Pre_served.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_served m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_served [hReferenceIdeal : Cert.ReferenceIdeal.Facts] [hPre_served : Cert.Pre_served.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_served m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_served [hKernelIdeal : Cert.KernelIdeal.Facts] [hReferenceIdeal : Cert.ReferenceIdeal.Facts] [hPre_served : Cert.Pre_served.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_served m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_served : Cert.Pre_served.Facts),
    quiescent_Kernel (hKernel := hKernel)
    ∧ quiescent_KernelIdeal (hKernelIdeal := hKernelIdeal)
    ∧ quiescent_KernelIdeal_pre_served (hKernelIdeal := hKernelIdeal) (hPre_served := hPre_served)
    ∧ quiescent_ReferenceIdeal (hReferenceIdeal := hReferenceIdeal)
    ∧ quiescent_ReferenceIdeal_pre_served (hReferenceIdeal := hReferenceIdeal) (hPre_served := hPre_served)
    ∧ preserves_Kernel_KernelIdeal
    ∧ algebraic_KernelIdeal_ReferenceIdeal_pre_served (hKernelIdeal := hKernelIdeal) (hReferenceIdeal := hReferenceIdeal) (hPre_served := hPre_served)
-- ==== Pre_served.lean ====
abbrev S1x32768x512 : Shape := ⟨3, ![1, 32768, 512]⟩
abbrev S32768 : Shape := ⟨1, ![32768]⟩
abbrev S128x512 : Shape := ⟨2, ![128, 512]⟩
abbrev S128 : Shape := ⟨1, ![128]⟩
abbrev S16x128 : Shape := ⟨2, ![16, 128]⟩
abbrev S16 : Shape := ⟨1, ![16]⟩
abbrev S1x16 : Shape := ⟨2, ![1, 16]⟩
abbrev S1 : Shape := ⟨1, ![1]⟩
abbrev S32768x1 : Shape := ⟨2, ![32768, 1]⟩
abbrev S32768x16 : Shape := ⟨2, ![32768, 16]⟩
abbrev S_ : Shape := ⟨0, ![]⟩

class Facts : Prop where
  bcast_S32768_S32768x1_0 : S32768.BroadcastsInDim S32768x1 (![0] : Fin 1 → Fin S32768x1.rank)
  bcast_S16_S1x16_1 : S16.BroadcastsInDim S1x16 (![1] : Fin 1 → Fin S1x16.rank)
  bcast_S32768x1_S32768x16_0_1 : S32768x1.BroadcastsInDim S32768x16 (![0, 1] : Fin 2 → Fin S32768x16.rank)
  bcast_S1x16_S32768x16_0_1 : S1x16.BroadcastsInDim S32768x16 (![0, 1] : Fin 2 → Fin S32768x16.rank)
  bcast_S_S1x32768x512 : S_.BroadcastsInDim S1x32768x512 (![] : Fin 0 → Fin S1x32768x512.rank)
  bcast_S_S128x512 : S_.BroadcastsInDim S128x512 (![] : Fin 0 → Fin S128x512.rank)
  bcast_S_S128 : S_.BroadcastsInDim S128 (![] : Fin 0 → Fin S128.rank)
  bcast_S_S16x128 : S_.BroadcastsInDim S16x128 (![] : Fin 0 → Fin S16x128.rank)
  bcast_S_S1 : S_.BroadcastsInDim S1 (![] : Fin 0 → Fin S1.rank)
  bcast_S_S1x16 : S_.BroadcastsInDim S1x16 (![] : Fin 0 → Fin S1x16.rank)
  bcast_S_S16 : S_.BroadcastsInDim S16 (![] : Fin 0 → Fin S16.rank)
  reducesTo_S32768x16_S16_d0 : S32768x16.ReducesTo [0] S16
  h_S_ : 0 < S_.numel

variable [Facts]

def fn_part1 {F : FTy → Type} [FloatOps F] (main_arg5 : FVec F S16 .f32) (main_arg6 : FVec F S1x16 .f32) (main_v5 : IVec S32768x16 1) (main_v8 : IVec S1x32768x512 1) (main_v11 : IVec S128x512 1) (main_v14 : IVec S128 1) (main_v17 : IVec S16x128 1) (main_v18 : FVec F S1 .f32) (main_cst_3 : FVec F S_ .f32) : IVec S1x32768x512 1 × IVec S128x512 1 × IVec S128 1 × IVec S16x128 1 × IVec S1 1 × IVec S1x16 1 × IVec S16 1 × IVec S16 1 :=
  let main_v19 : FVec F S1 .f32 := broadcastInDim S1 ![] bcast_S_S1 main_cst_3
  let main_v20 : IVec S1 1 := cmpf .olt main_v18 main_v19
  let main_v21 : FVec F S1x16 .f32 := Host.absf main_arg6
  let main_cst_4 : FVec F S_ .f32 := constant S_ .f32 0x40800000#32
  let main_v22 : FVec F S1x16 .f32 := broadcastInDim S1x16 ![] bcast_S_S1x16 main_cst_4
  let main_v23 : IVec S1x16 1 := cmpf .ole main_v21 main_v22
  let main_cst_5 : FVec F S_ .f32 := constant S_ .f32 0x00000000#32
  let main_v24 : FVec F S16 .f32 := broadcastInDim S16 ![] bcast_S_S16 main_cst_5
  let main_v25 : IVec S16 1 := cmpf .oeq main_arg5 main_v24
  let main_c : IVec S_ 1 := constantI S_ 1 0#1
  let main_v26 : IVec S16 1 := (fun x v => Host.reduce IntOp.ori x v reducesTo_S32768x16_S16_d0 h_S_) main_v5 main_c
  (main_v8, main_v11, main_v14, main_v17, main_v20, main_v23, main_v25, main_v26)

def fn {F : FTy → Type} [FloatOps F] (main_arg0 : FVec F S1x32768x512 .f32) (main_arg1 : IVec S32768 32) (main_arg2 : FVec F S128x512 .f32) (main_arg3 : FVec F S128 .f32) (main_arg4 : FVec F S16x128 .f32) (main_arg5 : FVec F S16 .f32) (main_arg6 : FVec F S1x16 .f32) (main_arg7 : FVec F S1 .f32) (main_arg8 : FVec F S16x128 .f32) (main_arg9 : FVec F S16 .f32) : IVec S1x32768x512 1 × IVec S128x512 1 × IVec S128 1 × IVec S16x128 1 × IVec S1 1 × IVec S1x16 1 × IVec S16 1 × IVec S16 1 :=
  let main_v0 : IVec S32768x1 32 := broadcastInDim S32768x1 ![0] bcast_S32768_S32768x1_0 main_arg1
  let main_v1 : IVec S16 32 := iotaInDim S16 32 0
  let main_v2 : IVec S1x16 32 := broadcastInDim S1x16 ![1] bcast_S16_S1x16_1 main_v1
  let main_v3 : IVec S32768x16 32 := broadcastInDim S32768x16 ![0, 1] bcast_S32768x1_S32768x16_0_1 main_v0
  let main_v4 : IVec S32768x16 32 := broadcastInDim S32768x16 ![0, 1] bcast_S1x16_S32768x16_0_1 main_v2
  let main_v5 : IVec S32768x16 1 := cmpi .eq main_v3 main_v4
  let main_v6 : FVec F S1x32768x512 .f32 := Host.absf main_arg0
  let main_cst : FVec F S_ .f32 := constant S_ .f32 0x7F800000#32
  let main_v7 : FVec F S1x32768x512 .f32 := broadcastInDim S1x32768x512 ![] bcast_S_S1x32768x512 main_cst
  let main_v8 : IVec S1x32768x512 1 := cmpf .olt main_v6 main_v7
  let main_v9 : FVec F S128x512 .f32 := Host.absf main_arg2
  let main_cst_0 : FVec F S_ .f32 := constant S_ .f32 0x7F800000#32
  let main_v10 : FVec F S128x512 .f32 := broadcastInDim S128x512 ![] bcast_S_S128x512 main_cst_0
  let main_v11 : IVec S128x512 1 := cmpf .olt main_v9 main_v10
  let main_v12 : FVec F S128 .f32 := Host.absf main_arg3
  let main_cst_1 : FVec F S_ .f32 := constant S_ .f32 0x7F800000#32
  let main_v13 : FVec F S128 .f32 := broadcastInDim S128 ![] bcast_S_S128 main_cst_1
  let main_v14 : IVec S128 1 := cmpf .olt main_v12 main_v13
  let main_v15 : FVec F S16x128 .f32 := Host.absf main_arg4
  let main_cst_2 : FVec F S_ .f32 := constant S_ .f32 0x7F800000#32
  let main_v16 : FVec F S16x128 .f32 := broadcastInDim S16x128 ![] bcast_S_S16x128 main_cst_2
  let main_v17 : IVec S16x128 1 := cmpf .olt main_v15 main_v16
  let main_v18 : FVec F S1 .f32 := Host.absf main_arg7
  let main_cst_3 : FVec F S_ .f32 := constant S_ .f32 0x7F800000#32
  fn_part1 (F := F) main_arg5 main_arg6 main_v5 main_v8 main_v11 main_v14 main_v17 main_v18 main_cst_3
-- ==== Kernel.lean ====
abbrev S1x32768x512 : Shape := ⟨3, ![1, 32768, 512]⟩
abbrev S32768 : Shape := ⟨1, ![32768]⟩
abbrev S128x512 : Shape := ⟨2, ![128, 512]⟩
abbrev S128 : Shape := ⟨1, ![128]⟩
abbrev S16x128 : Shape := ⟨2, ![16, 128]⟩
abbrev S16 : Shape := ⟨1, ![16]⟩
abbrev S1x16 : Shape := ⟨2, ![1, 16]⟩
abbrev S1 : Shape := ⟨1, ![1]⟩
abbrev S32768x512 : Shape := ⟨2, ![32768, 512]⟩
abbrev S32768x1 : Shape := ⟨2, ![32768, 1]⟩
abbrev S1x128 : Shape := ⟨2, ![1, 128]⟩
abbrev S16x16 : Shape := ⟨2, ![16, 16]⟩
abbrev S4096x512 : Shape := ⟨2, ![4096, 512]⟩
abbrev S4096x1 : Shape := ⟨2, ![4096, 1]⟩
abbrev S128x16 : Shape := ⟨2, ![128, 16]⟩
abbrev S512x144 : Shape := ⟨2, ![512, 144]⟩
abbrev S512x128 : Shape := ⟨2, ![512, 128]⟩
abbrev S512x16 : Shape := ⟨2, ![512, 16]⟩
abbrev S4096x144 : Shape := ⟨2, ![4096, 144]⟩
abbrev S4096x128 : Shape := ⟨2, ![4096, 128]⟩
abbrev S4096x16 : Shape := ⟨2, ![4096, 16]⟩
abbrev S16x1 : Shape := ⟨2, ![16, 1]⟩
abbrev S128x1 : Shape := ⟨2, ![128, 1]⟩

abbrev nBuf : Space → Nat
  | .hbm => 17
  | .vmem => 16
  | .smem => 0
  | _ => 0

abbrev bufTy : (tb : Table) → Fin (tcTables nBuf tb) → BufTy
  | .hbm, ⟨0, _⟩ => ⟨S1x32768x512, .f32⟩
  | .hbm, ⟨1, _⟩ => ⟨S32768, .i32⟩
  | .hbm, ⟨2, _⟩ => ⟨S128x512, .f32⟩
  | .hbm, ⟨3, _⟩ => ⟨S128, .f32⟩
  | .hbm, ⟨4, _⟩ => ⟨S16x128, .f32⟩
  | .hbm, ⟨5, _⟩ => ⟨S16, .f32⟩
  | .hbm, ⟨6, _⟩ => ⟨S1x16, .f32⟩
  | .hbm, ⟨7, _⟩ => ⟨S1, .f32⟩
  | .hbm, ⟨8, _⟩ => ⟨S16x128, .f32⟩
  | .hbm, ⟨9, _⟩ => ⟨S16, .f32⟩
  | .hbm, ⟨10, _⟩ => ⟨S32768x512, .f32⟩
  | .hbm, ⟨11, _⟩ => ⟨S32768, .f32⟩
  | .hbm, ⟨12, _⟩ => ⟨S32768x1, .f32⟩
  | .hbm, ⟨13, _⟩ => ⟨S1x128, .f32⟩
  | .hbm, ⟨14, _⟩ => ⟨S1x16, .f32⟩
  | .hbm, ⟨15, _⟩ => ⟨S16x128, .f32⟩
  | .hbm, ⟨16, _⟩ => ⟨S16x16, .f32⟩
  | .local _ .vmem, ⟨0, _⟩ => ⟨S4096x512, .f32⟩
  | .local _ .vmem, ⟨1, _⟩ => ⟨S4096x512, .f32⟩
  | .local _ .vmem, ⟨2, _⟩ => ⟨S4096x1, .f32⟩
  | .local _ .vmem, ⟨3, _⟩ => ⟨S4096x1, .f32⟩
  | .local _ .vmem, ⟨4, _⟩ => ⟨S128x512, .f32⟩
  | .local _ .vmem, ⟨5, _⟩ => ⟨S1x128, .f32⟩
  | .local _ .vmem, ⟨6, _⟩ => ⟨S16x128, .f32⟩
  | .local _ .vmem, ⟨7, _⟩ => ⟨S1x16, .f32⟩
  | .local _ .vmem, ⟨8, _⟩ => ⟨S16x128, .f32⟩
  | .local _ .vmem, ⟨9, _⟩ => ⟨S1x16, .f32⟩
  | .local _ .vmem, ⟨10, _⟩ => ⟨S16x128, .f32⟩
  | .local _ .vmem, ⟨11, _⟩ => ⟨S16x16, .f32⟩
  | .local _ .vmem, ⟨12, _⟩ => ⟨S128x16, .f32⟩
  | .local _ .vmem, ⟨13, _⟩ => ⟨S1x16, .f32⟩
  | .local _ .vmem, ⟨14, _⟩ => ⟨S512x144, .bf16⟩
  | .local _ .vmem, ⟨15, _⟩ => ⟨S1x16, .f32⟩
  | _, _ => ⟨S1x32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_22 : BitVec 32 := 0#32
  let v44 : BitVec 1 := Scalar.cmpi .ne v43 c0_i32_22
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x32768x512 : Shape := ⟨3, ![1, 32768, 512]⟩
abbrev S32768 : Shape := ⟨1, ![32768]⟩
abbrev S128x512 : Shape := ⟨2, ![128, 512]⟩
abbrev S128 : Shape := ⟨1, ![128]⟩
abbrev S16x128 : Shape := ⟨2, ![16, 128]⟩
abbrev S16 : Shape := ⟨1, ![16]⟩
abbrev S1x16 : Shape := ⟨2, ![1, 16]⟩
abbrev S1 : Shape := ⟨1, ![1]⟩
abbrev S32768x512 : Shape := ⟨2, ![32768, 512]⟩
abbrev S512x128 : Shape := ⟨2, ![512, 128]⟩
abbrev S32768x128 : Shape := ⟨2, ![32768, 128]⟩
abbrev S1x128 : Shape := ⟨2, ![1, 128]⟩
abbrev S128x16 : Shape := ⟨2, ![128, 16]⟩
abbrev S32768x16 : Shape := ⟨2, ![32768, 16]⟩
abbrev S16x1 : Shape := ⟨2, ![16, 1]⟩
abbrev S32768x1 : Shape := ⟨2, ![32768, 1]⟩
abbrev S1x1 : Shape := ⟨2, ![1, 1]⟩
abbrev S_ : Shape := ⟨0, ![]⟩
abbrev S16x16 : Shape := ⟨2, ![16, 16]⟩

abbrev nBuf : Space → Nat
  | .hbm => 89
  | .vmem => 0
  | .smem => 0
  | _ => 0

abbrev bufTy : (tb : Table) → Fin (tcTables nBuf tb) → BufTy
  | .hbm, ⟨0, _⟩ => ⟨S1x32768x512, .f32⟩
  | .hbm, ⟨1, _⟩ => ⟨S32768, .i32⟩
  | .hbm, ⟨2, _⟩ => ⟨S128x512, .f32⟩
  | .hbm, ⟨3, _⟩ => ⟨S128, .f32⟩
  | .hbm, ⟨4, _⟩ => ⟨S16x128, .f32⟩
  | .hbm, ⟨5, _⟩ => ⟨S16, .f32⟩
  | .hbm, ⟨6, _⟩ => ⟨S1x16, .f32⟩
  | .hbm, ⟨7, _⟩ => ⟨S1, .f32⟩
  | .hbm, ⟨8, _⟩ => ⟨S16x128, .f32⟩
  | .hbm, ⟨9, _⟩ => ⟨S16, .f32⟩
  | .hbm, ⟨10, _⟩ => ⟨S32768x512, .f32⟩
  | .hbm, ⟨11, _⟩ => ⟨S512x128, .f32⟩
  | .hbm, ⟨12, _⟩ => ⟨S32768x128, .f32⟩
  | .hbm, ⟨13, _⟩ => ⟨S1x128, .f32⟩
  | .hbm, ⟨14, _⟩ => ⟨S32768x128, .f32⟩
  | .hbm, ⟨15, _⟩ => ⟨S32768x128, .f32⟩
  | .hbm, ⟨16, _⟩ => ⟨S128x16, .f32⟩
  | .hbm, ⟨17, _⟩ => ⟨S32768x16, .f32⟩
  | .hbm, ⟨18, _⟩ => ⟨S1x16, .f32⟩
  | .hbm, ⟨19, _⟩ => ⟨S32768x16, .f32⟩
  | .hbm, ⟨20, _⟩ => ⟨S32768x16, .f32⟩
  | .hbm, ⟨21, _⟩ => ⟨S32768x16, .f32⟩
  | .hbm, ⟨22, _⟩ => ⟨S16x1, .f32⟩
  | .hbm, ⟨23, _⟩ => ⟨S32768x1, .f32⟩
  | .hbm, ⟨24, _⟩ => ⟨S1x1, .f32⟩
  | .hbm, ⟨25, _⟩ => ⟨S32768x1, .f32⟩
  | .hbm, ⟨26, _⟩ => ⟨S32768x1, .f32⟩
  | .hbm, ⟨27, _⟩ => ⟨S32768, .f32⟩
  | .hbm, ⟨28, _⟩ => ⟨S32768x1, .i32⟩
  | .hbm, ⟨29, _⟩ => ⟨S16, .i32⟩
  | .hbm, ⟨30, _⟩ => ⟨S1x16, .i32⟩
  | .hbm, ⟨31, _⟩ => ⟨S32768x16, .i32⟩
  | .hbm, ⟨32, _⟩ => ⟨S32768x16, .i32⟩
  | .hbm, ⟨33, _⟩ => ⟨S32768x16, .i1⟩
  | .hbm, ⟨34, _⟩ => ⟨S32768x1, .f32⟩
  | .hbm, ⟨35, _⟩ => ⟨S_, .f32⟩
  | .hbm, ⟨36, _⟩ => ⟨S_, .f32⟩
  | .hbm, ⟨37, _⟩ => ⟨S32768x16, .f32⟩
  | .hbm, ⟨38, _⟩ => ⟨S32768x16, .f32⟩
  | .hbm, ⟨39, _⟩ => ⟨S32768x16, .f32⟩
  | .hbm, ⟨40, _⟩ => ⟨S_, .f32⟩
  | .hbm, ⟨41, _⟩ => ⟨S16, .f32⟩
  | .hbm, ⟨42, _⟩ => ⟨S_, .i32⟩
  | .hbm, ⟨43, _⟩ => ⟨S32768, .i32⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S32768x1, .i32⟩
  | .hbm, ⟨50, _⟩ => ⟨S32768, .f32⟩
  | .hbm, ⟨51, _⟩ => ⟨S32768, .f32⟩
  | .hbm, ⟨52, _⟩ => ⟨S32768, .f32⟩
  | .hbm, ⟨53, _⟩ => ⟨S_, .f32⟩
  | .hbm, ⟨54, _⟩ => ⟨S16, .f32⟩
  | .hbm, ⟨55, _⟩ => ⟨S32768x1, .i32⟩
  | .hbm, ⟨56, _⟩ => ⟨S16, .f32⟩
  | .hbm, ⟨57, _⟩ => ⟨S_, .i32⟩
  | .hbm, ⟨58, _⟩ => ⟨S32768, .i32⟩
  | .hbm, ⟨59, _⟩ => ⟨S32768, .i1⟩
  | .hbm, ⟨60, _⟩ => ⟨S_, .i32⟩
  | .hbm, ⟨61, _⟩ => ⟨S32768, .i32⟩
  | .hbm, ⟨62, _⟩ => ⟨S32768, .i32⟩
  | .hbm, ⟨63, _⟩ => ⟨S32768, .i32⟩
  | .hbm, ⟨64, _⟩ => ⟨S32768x1, .i32⟩
  | .hbm, ⟨65, _⟩ => ⟨S32768, .f32⟩
  | .hbm, ⟨66, _⟩ => ⟨S32768, .f32⟩
  | .hbm, ⟨67, _⟩ => ⟨S32768x1, .f32⟩
  | .hbm, ⟨68, _⟩ => ⟨S32768x128, .f32⟩
  | .hbm, ⟨69, _⟩ => ⟨S32768x128, .f32⟩
  | .hbm, ⟨70, _⟩ => ⟨S_, .f32⟩
  | .hbm, ⟨71, _⟩ => ⟨S16x128, .f32⟩
  | .hbm, ⟨72, _⟩ => ⟨S32768x1, .i32⟩
  | .hbm, ⟨73, _⟩ => ⟨S16x128, .f32⟩
  | .hbm, ⟨74, _⟩ => ⟨S128x16, .f32⟩
  | .hbm, ⟨75, _⟩ => ⟨S16x16, .f32⟩
  | .hbm, ⟨76, _⟩ => ⟨S1x16, .f32⟩
  | .hbm, ⟨77, _⟩ => ⟨S16x16, .f32⟩
  | .hbm, ⟨78, _⟩ => ⟨S16x16, .f32⟩
  | .hbm, ⟨79, _⟩ => ⟨S16x16, .f32⟩
  | .hbm, ⟨80, _⟩ => ⟨S_, .f32⟩
  | .hbm, ⟨81, _⟩ => ⟨S16, .f32⟩
  | .hbm, ⟨82, _⟩ => ⟨S16x1, .f32⟩
  | .hbm, ⟨83, _⟩ => ⟨S16x1, .f32⟩
  | .hbm, ⟨84, _⟩ => ⟨S_, .f32⟩
  | .hbm, ⟨85, _⟩ => ⟨S16x1, .f32⟩
  | .hbm, ⟨86, _⟩ => ⟨S16x1, .f32⟩
  | .hbm, ⟨87, _⟩ => ⟨S16x16, .f32⟩
  | .hbm, ⟨88, _⟩ => ⟨S16x16, .f32⟩
  | _, _ => ⟨S1x32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_v28 : Ref sig .tc := ⟨.hbm, 44, rfl⟩
abbrev main_c_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_3 : Ref sig .tc := ⟨.hbm, 57, rfl⟩
abbrev main_v39 : Ref sig .tc := ⟨.hbm, 58, rfl⟩
abbrev main_v40 : Ref sig .tc := ⟨.hbm, 59, rfl⟩
abbrev main_c_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call1_v0 : Ref sig .tc := ⟨.hbm, 79, rfl⟩
abbrev main_call1_cst : Ref sig .tc := ⟨.hbm, 80, rfl⟩
abbrev main_call1_v1 : Ref sig .tc := ⟨.hbm, 81, rfl⟩
abbrev main_call1_v2 : Ref sig .tc := ⟨.hbm, 82, rfl⟩
abbrev main_v58 : Ref sig .tc := ⟨.hbm, 83, rfl⟩
abbrev main_cst_6 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== Proof.RealBag.lean ====
/- The real-number facts behind the kernel: attention pooling over one bag does not notice a common shift of the scores,
   weights that sum to one carry a constant through, and scores bounded below keep the denominator away from zero. -/
module

public import Mathlib.Analysis.SpecialFunctions.Exp
public import Mathlib.Analysis.SpecialFunctions.Trigonometric.DerivHyp
public import Mathlib.Data.EReal.Inv
public import Mathlib.Algebra.BigOperators.Field

@[expose] public section

namespace Cert.Bag

/-- A finite sum of real numbers, read as an extended real, is the sum of the extended reals. -/
theorem coe_sum_real {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The exponentials of a nonempty bag have a positive sum. -/
theorem sum_exp_pos {ι : Type*} {S : Finset ι} (hS : S.Nonempty) (α : ι → ℝ) : 0 < ∑ i ∈ S, Real.exp (α i) :=
  Finset.sum_pos (fun i _ => Real.exp_pos _) hS

/-- SOFTMAX POOLING, SHIFTED: with the scores moved by the constant `c - μ` and the pooled rows by the constant `b`, the
    softmax-weighted sum over a nonempty bag is the unshifted quotient of sums plus `b`. -/
theorem pooled_shift {ι : Type*} {S : Finset ι} (hS : S.Nonempty) (α h : ι → ℝ) (b c μ : ℝ) :
    ∑ i ∈ S, Real.exp (α i + c - μ) / (∑ j ∈ S, Real.exp (α j + c - μ)) * (h i + b)
      = (∑ i ∈ S, h i * Real.exp (α i)) / (∑ i ∈ S, Real.exp (α i)) + b := by
  have hD := sum_exp_pos hS α
  have hK : 0 < Real.exp (c - μ) := Real.exp_pos _
  have e : ∀ i, Real.exp (α i + c - μ) = Real.exp (α i) * Real.exp (c - μ) := fun i => by
    rw [← Real.exp_add]; congr 1; ring
  simp only [e, ← Finset.sum_mul]
  have t : ∀ i, Real.exp (α i) * Real.exp (c - μ) / ((∑ j ∈ S, Real.exp (α j)) * Real.exp (c - μ)) * (h i + b)
      = (h i * Real.exp (α i)) / (∑ j ∈ S, Real.exp (α j)) + b * (Real.exp (α i) / ∑ j ∈ S, Real.exp (α j)) := fun i => by
    rw [mul_div_mul_right _ _ hK.ne']; ring
  simp only [t]
  rw [Finset.sum_add_distrib, ← Finset.sum_div, ← Finset.mul_sum, ← Finset.sum_div, div_self hD.ne', mul_one]

/-- A score of sixteen gated units with weights at most 4 in size is at least -64. -/
theorem score_ge (u w : Fin 16 → ℝ) (hw : ∀ f, |w f| ≤ 4) : -64 ≤ ∑ f, Real.tanh (u f) * w f := by
  have h : ∀ f ∈ (Finset.univ : Finset (Fin 16)), (-4 : ℝ) ≤ Real.tanh (u f) * w f := fun f _ => by
    have ht : |Real.tanh (u f)| ≤ 1 := abs_le.2 ⟨(Real.neg_one_lt_tanh _).le, (Real.tanh_lt_one _).le⟩
    have := (abs_mul (Real.tanh (u f)) (w f)).le.trans (mul_le_mul ht (hw f) (abs_nonneg _) zero_le_one)
    have := neg_abs_le (Real.tanh (u f) * w f)
    linarith
  have := Finset.card_nsmul_le_sum _ _ _ h
  simp at this
  linarith

/-- The exponential of 1 is below 2.72. -/
theorem exp_one_le : Real.exp 1 ≤ 272 / 100 := by
  have h := Real.exp_bound' (x := 1) (by norm_num) (by norm_num) (n := 5) (by norm_num)
  refine h.trans ?_
  simp only [Finset.sum_range_succ, Finset.sum_range_zero]
  norm_num [Nat.factorial]

/-- The exponential of -64 exceeds 2⁻⁹⁵. -/
theorem exp_neg_64 : (1 / 2 ^ 95 : ℝ) ≤ Real.exp (-64) := by
  have h1 : Real.exp 64 ≤ 2 ^ 95 := by
    have e : Real.exp 64 = Real.exp 1 ^ 64 := by rw [← Real.exp_nat_mul]; norm_num
    rw [e]
    calc Real.exp 1 ^ 64 ≤ (272 / 100 : ℝ) ^ 64 := pow_le_pow_left₀ (Real.exp_pos _).le exp_one_le _
      _ ≤ 2 ^ 95 := by norm_num
  rw [Real.exp_neg, ← one_div]
  exact one_div_le_one_div_of_le (Real.exp_pos _) h1

/-- Where every score of a nonempty bag is at least -64, the sum of exponentials exceeds 2⁻⁹⁵. -/
theorem sum_exp_ge {ι : Type*} {S : Finset ι} (hS : S.Nonempty) (α : ι → ℝ) (h : ∀ i ∈ S, -64 ≤ α i) :
    (1 / 2 ^ 95 : ℝ) ≤ ∑ i ∈ S, Real.exp (α i) := by
  obtain ⟨i, hi⟩ := hS
  exact exp_neg_64.trans ((Real.exp_le_exp.2 (h i hi)).trans
    (Finset.single_le_sum (f := fun i => Real.exp (α i)) (fun j _ => (Real.exp_pos _).le) hi))

end Cert.Bag
-- ==== Proof.Pooling.lean ====
/- Attention pooling over the extended reals, in the two forms the kernel and the reference compute it, and their equality
   at finite arguments. Rows are `Fin 32768`, bags `Fin 16`, features `Fin 512`, hidden units `Fin 128`, gates `Fin 16`. -/
module

public import proofs.«01_k».proof.Proof.RealBag
public import Idealize.ShloMosaic.PureOps.Ideal

@[expose] public section

noncomputable section

open Idealize.ShloMosaic

namespace Cert.Bag

/-- The eight arrays the pooled rows depend on, entry by entry: rows, bag numbers, the feature matrix and offset, the gate
    matrix and offset, the score's weights and offset. -/
structure Args where
  X : Fin 32768 → Fin 512 → EReal
  I : Fin 32768 → ℤ
  Wf : Fin 128 → Fin 512 → EReal
  bf : Fin 128 → EReal
  Wa : Fin 16 → Fin 128 → EReal
  ba : Fin 16 → EReal
  wa : Fin 16 → EReal
  b2 : EReal

variable (A : Args)

/-- A row's hidden units without the offset. -/
def hid (i : Fin 32768) (d : Fin 128) : EReal := ∑ j, A.X i j * A.Wf d j

/-- The product of the two weight matrices. -/
def comb (j : Fin 512) (f : Fin 16) : EReal := ∑ k, A.Wf k j * A.Wa f k

/-- The gates' offset that the features' offset gives. -/
def gOff (f : Fin 16) : EReal := ∑ k, A.bf k * A.Wa f k

/-- The kernel's score of a row: the gates through the combined matrix. -/
def kScore (i : Fin 32768) : EReal := ∑ f, Ideal.tanh ((∑ j, A.X i j * comb A j f) + gOff A f) * A.wa f

/-- The kernel's weight of a row in a bag: the exponential of its score, or zero outside the bag. -/
def kWeight (i : Fin 32768) (s : Fin 16) : EReal := if A.I i = (s.val : ℤ) then Ideal.exp (kScore A i) else 0

/-- The kernel's sum of weights of a bag. -/
def kDen (s : Fin 16) : EReal := ∑ i, kWeight A i s

/-- The kernel's weighted sum of a bag's hidden units. -/
def kNum (d : Fin 128) (s : Fin 16) : EReal := ∑ i, hid A i d * kWeight A i s

/-- The kernel's pooled row of a bag: the quotient, its denominator kept above a small constant, and the offset. -/
def kPool (s : Fin 16) (d : Fin 128) : EReal :=
  Ideal.div (kNum A d s) (max (kDen A s) (Ideal.ofBits .f32 0x0DA24260#32)) + A.bf d

/-- The reference's hidden units of a row. -/
def rHid (i : Fin 32768) (d : Fin 128) : EReal := hid A i d + A.bf d

/-- The reference's score of a row. -/
def rScore (i : Fin 32768) : EReal := (∑ f, Ideal.tanh ((∑ k, rHid A i k * A.Wa f k) + A.ba f) * A.wa f) + A.b2

/-- The greatest score of a bag. -/
def rMax (s : Fin 16) : EReal := (Finset.univ.filter fun i => A.I i = (s.val : ℤ)).sup (rScore A)

/-- The reference's sum of the shifted exponentials of a bag. -/
def rDen (s : Fin 16) : EReal := ∑ i ∈ Finset.univ.filter (fun i => A.I i = (s.val : ℤ)), Ideal.exp (rScore A i - rMax A s)

/-- The reference's pooled row of a bag: the rows of the bag weighted by the softmax of their scores. -/
def rPool (s : Fin 16) (d : Fin 128) : EReal :=
  ∑ i ∈ Finset.univ.filter (fun i => A.I i = (s.val : ℤ)), Ideal.div (Ideal.exp (rScore A i - rMax A s)) (rDen A s) * rHid A i d

/-- What the two forms need to agree: finite numbers, score weights of size at most 4, gate offsets zero, no bag empty. -/
structure Fine : Prop where
  X : ∀ i j, ∃ r : ℝ, A.X i j = r
  Wf : ∀ d j, ∃ r : ℝ, A.Wf d j = r
  bf : ∀ d, ∃ r : ℝ, A.bf d = r
  Wa : ∀ f k, ∃ r : ℝ, A.Wa f k = r
  ba : ∀ f, A.ba f = 0
  wa : ∀ f, ∃ r : ℝ, A.wa f = r ∧ |r| ≤ 4
  b2 : ∃ r : ℝ, A.b2 = r
  bag : ∀ s : Fin 16, ∃ i, A.I i = (s.val : ℤ)

/-- The constant below which the kernel does not let a denominator fall is at most 2⁻⁹⁵. -/
theorem floor_le : Ideal.ofBits .f32 0x0DA24260#32 ≤ ((1 / 2 ^ 95 : ℝ) : EReal) := by
  have : Ideal.ofBits .f32 0x0DA24260#32 = ((10633824 / 2 ^ 123 : ℝ) : EReal) := by
    simp [Ideal.ofBits, Ideal.ieee, -EReal.coe_mul]; norm_num
  rw [this]
  exact EReal.coe_le_coe_iff.2 (by norm_num)

/-- The kernel's pooled rows are the reference's. -/
theorem kPool_eq (hA : Fine A) (s : Fin 16) (d : Fin 128) : kPool A s d = rPool A s d := by
  choose X hX using hA.X
  choose Wf hWf using hA.Wf
  choose bf hbf using hA.bf
  choose Wa hWa using hA.Wa
  choose wa hwa hwb using hA.wa
  obtain ⟨b2, hb2⟩ := hA.b2
  obtain ⟨i₀, hi₀⟩ := hA.bag s
  set S : Finset (Fin 32768) := Finset.univ.filter fun i => A.I i = (s.val : ℤ) with hS
  have hne : S.Nonempty := ⟨i₀, Finset.mem_filter.2 ⟨Finset.mem_univ _, hi₀⟩⟩
  -- the real counterparts
  let h : Fin 32768 → Fin 128 → ℝ := fun i d => ∑ j, X i j * Wf d j
  let u : Fin 32768 → Fin 16 → ℝ := fun i f => (∑ j, X i j * ∑ k, Wf k j * Wa f k) + ∑ k, bf k * Wa f k
  let α : Fin 32768 → ℝ := fun i => ∑ f, Real.tanh (u i f) * wa f
  have hh : ∀ i d, hid A i d = (h i d : ℝ) := fun i d => by
    simp only [hid, hX, hWf, h, coe_sum_real, EReal.coe_mul]
  have hk : ∀ i, kScore A i = (α i : ℝ) := fun i => by
    have : ∀ f, (∑ j, A.X i j * comb A j f) + gOff A f = (u i f : ℝ) := fun f => by
      simp only [comb, gOff, hX, hWf, hWa, hbf, u, coe_sum_real, EReal.coe_mul, EReal.coe_add]
    simp only [kScore, this, hwa, Ideal.tanh_coe, α, coe_sum_real, EReal.coe_mul]
  have hu : ∀ i f, (∑ k, (h i k + bf k) * Wa f k) = u i f := fun i f => by
    simp only [h, u, add_mul, Finset.sum_add_distrib, Finset.sum_mul, Finset.mul_sum]
    rw [Finset.sum_comm]
    simp only [mul_assoc]
  have hr : ∀ i, rScore A i = (α i + b2 : ℝ) := fun i => by
    have : ∀ f, (∑ k, rHid A i k * A.Wa f k) + A.ba f = (u i f : ℝ) := fun f => by
      rw [hA.ba, add_zero, ← hu]
      simp only [rHid, hh, hbf, hWa, coe_sum_real, EReal.coe_mul, EReal.coe_add]
    simp only [rScore, this, hwa, hb2, Ideal.tanh_coe, α, coe_sum_real, EReal.coe_mul, EReal.coe_add]
  -- the greatest score is a real number
  obtain ⟨μ, hμ⟩ : ∃ μ : ℝ, rMax A s = μ := by
    obtain ⟨i, _, hi⟩ := Finset.exists_mem_eq_sup S hne (rScore A)
    exact ⟨α i + b2, hi.trans (hr i)⟩
  have hge : (1 / 2 ^ 95 : ℝ) ≤ ∑ i ∈ S, Real.exp (α i) := sum_exp_ge hne α fun i _ => score_ge _ _ hwb
  have hpos : (0 : ℝ) < ∑ i ∈ S, Real.exp (α i) := sum_exp_pos hne α
  have hite : ∀ (i : Fin 32768) (a : ℝ), ((if A.I i = (s.val : ℤ) then a else 0 : ℝ) : EReal) = if A.I i = (s.val : ℤ) then (a : EReal) else 0 :=
    fun i a => by split_ifs <;> rfl
  have hden : kDen A s = (∑ i ∈ S, Real.exp (α i) : ℝ) := by
    simp only [kDen, kWeight, hk, Ideal.exp_coe, coe_sum_real, hS, Finset.sum_filter, hite]
  have hnum : kNum A d s = (∑ i ∈ S, h i d * Real.exp (α i) : ℝ) := by
    simp only [kNum, kWeight, hk, hh, Ideal.exp_coe, coe_sum_real, hS, Finset.sum_filter, hite, mul_ite, mul_zero, EReal.coe_mul]
  have hrd : rDen A s = (∑ i ∈ S, Real.exp (α i + b2 - μ) : ℝ) := by
    simp only [rDen, hr, hμ, ← hS, ← EReal.coe_sub, Ideal.exp_coe, coe_sum_real]
  have hrpos : (0 : ℝ) < ∑ i ∈ S, Real.exp (α i + b2 - μ) := sum_exp_pos hne fun i => α i + b2 - μ
  have hl : kPool A s d = ((∑ i ∈ S, h i d * Real.exp (α i)) / (∑ i ∈ S, Real.exp (α i)) + bf d : ℝ) := by
    rw [kPool, hnum, hden, max_eq_left (floor_le.trans (EReal.coe_le_coe_iff.2 hge)), Ideal.div_coe hpos.ne', hbf,
      ← EReal.coe_mul, ← EReal.coe_add, mul_one_div]
  have hrr : rPool A s d = (∑ i ∈ S, Real.exp (α i + b2 - μ) / (∑ j ∈ S, Real.exp (α j + b2 - μ)) * (h i d + bf d) : ℝ) := by
    rw [rPool, ← hS, coe_sum_real]
    refine Finset.sum_congr rfl fun i _ => ?_
    rw [hrd, hr, hμ, ← EReal.coe_sub, Ideal.exp_coe, Ideal.div_coe hrpos.ne', rHid, hh, hbf, ← EReal.coe_mul, ← EReal.coe_add,
      ← EReal.coe_mul, mul_one_div]
  rw [hl, hrr, pooled_shift hne]

end Cert.Bag
-- ==== Proof.RefScore.lean ====
/- The reference program's rows, scores and greatest scores, read entry by entry. -/
module

public import proofs.«01_k».proof.Proof.Pooling
public import proofs.«01_k».proof.Proof.Gen.ReferenceIdeal.Read
public import Idealize.ShloMosaic.Lib.Pointwise

@[expose] public section

set_option maxRecDepth 16384

noncomputable section

open Idealize.ShloMosaic

namespace Cert.Bag

/-- The arguments of the pooling, taken from the programs' argument arrays. -/
def ofArrays (x0 : FVec Ideal ⟨3, ![1, 32768, 512]⟩ .f32) (x1 : IVec ⟨1, ![32768]⟩ 32) (x2 : FVec Ideal ⟨2, ![128, 512]⟩ .f32)
    (x3 : FVec Ideal ⟨1, ![128]⟩ .f32) (x4 : FVec Ideal ⟨2, ![16, 128]⟩ .f32) (x5 : FVec Ideal ⟨1, ![16]⟩ .f32)
    (x6 : FVec Ideal ⟨2, ![1, 16]⟩ .f32) (x7 : FVec Ideal ⟨1, ![1]⟩ .f32) : Args where
  X i j := x0 (ix3 0 i j)
  I i := (x1 (ix1 i)).toInt
  Wf d j := x2 (ix2 d j)
  bf d := x3 (ix1 d)
  Wa f k := x4 (ix2 f k)
  ba f := x5 (ix1 f)
  wa f := x6 (ix2 0 f)
  b2 := x7 (ix1 0)

end Cert.Bag

namespace Cert.ReferenceIdeal.Bag

open Cert.ReferenceIdeal Cert.ReferenceIdeal.Read Cert.Bag

variable (x0 : FVec Ideal S1x32768x512 .f32) (x1 : IVec S32768 32) (x2 : FVec Ideal S128x512 .f32)
    (x3 : FVec Ideal S128 .f32) (x4 : FVec Ideal S16x128 .f32) (x5 : FVec Ideal S16 .f32)
    (x6 : FVec Ideal S1x16 .f32) (x7 : FVec Ideal S1 .f32)

/-- The hidden units of a row. -/
theorem hid_read (i : Fin 32768) (d : Fin 128) :
    val_main_v5 (F := Ideal) x0 x2 x3 (ix2 i d) = rHid (ofArrays x0 x1 x2 x3 x4 x5 x6 x7) i d := by
  unfold rHid hid ofArrays
  pointwise [val_main_v5, val_main_v4, val_main_v3, val_main_v2, val_main_v1, val_main_v0]

/-- The score of a row. -/
theorem score_read (i : Fin 32768) :
    val_main_v17 (F := Ideal) x0 x2 x3 x4 x5 x6 x7 (ix1 i) = rScore (ofArrays x0 x1 x2 x3 x4 x5 x6 x7) i := by
  unfold rScore rHid hid ofArrays
  pointwise [val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0]

/-- A fold of maxima from the least element, over a function that is least off a set, is the supremum over the set. -/
theorem fold_max_masked {ι : Type} [Fintype ι] [DecidableEq ι] (p : ι → Prop) [DecidablePred p] (g : ι → EReal) :
    Finset.fold max (⊥ : EReal) (fun i => if p i then g i else ⊥) Finset.univ = (Finset.univ.filter p).sup g := by
  refine le_antisymm (Finset.fold_max_le _ |>.2 ⟨bot_le, fun i _ => ?_⟩) (Finset.sup_le fun i hi => ?_)
  · by_cases h : p i
    · rw [if_pos h]
      exact Finset.le_sup (f := g) (Finset.mem_filter.2 ⟨Finset.mem_univ _, h⟩)
    · rw [if_neg h]
      exact bot_le
  · refine Finset.le_fold_max _ |>.2 (Or.inr ⟨i, Finset.mem_univ _, ?_⟩)
    rw [if_pos (Finset.mem_filter.1 hi).2]

/-- The word for minus infinity is the least extended real. -/
theorem bits_neg_inf : Ideal.ofBits .f32 0xFF800000#32 = (⊥ : EReal) := by
  simp [Ideal.ofBits, Ideal.ieee]

/-- A 32-bit word equals the word of a bag number exactly when, read signed, it is that number. -/
theorem eq_word_iff (w : BitVec 32) (s : Fin 16) : w = BitVec.ofNat 32 s.val ↔ w.toInt = (s.val : ℤ) := by
  have h : (BitVec.ofNat 32 s.val).toInt = (s.val : ℤ) := by
    have := s.isLt
    rw [BitVec.toInt_eq_toNat_of_lt] <;> simp [BitVec.toNat_ofNat] <;> omega
  constructor
  · rintro rfl; exact h
  · intro e; exact BitVec.eq_of_toInt_eq (e.trans h.symm)

/-- A choice by the comparison of a word with a bag number's word is the choice by the signed reading. -/
theorem select_word {α : Type} (w : BitVec 32) (s : Fin 16) (a b : α) :
    Scalar.select (IntOp.cmpi .eq w (BitVec.ofNat 32 s.val)) a b = if w.toInt = (s.val : ℤ) then a else b := by
  by_cases h : w.toInt = (s.val : ℤ)
  · rw [if_pos h, (eq_word_iff w s).2 h]
    simp [Scalar.select, IntOp.cmpi]
  · rw [if_neg h]
    have : w ≠ BitVec.ofNat 32 s.val := fun e => h ((eq_word_iff w s).1 e)
    have hb : (w == BitVec.ofNat 32 s.val) = false := beq_eq_false_iff_ne.2 this
    simp only [Scalar.select, IntOp.cmpi, hb]
    rfl

/-- The greatest score of a bag. -/
theorem max_read (s : Fin 16) :
    val_main_v26 (F := Ideal) x0 x1 x2 x3 x4 x5 x6 x7 (ix1 s) = rMax (ofArrays x0 x1 x2 x3 x4 x5 x6 x7) s := by
  unfold rMax
  rw [← fold_max_masked]
  simp only [← score_read]
  pointwise [val_main_v26, val_main_v25, val_main_v24, val_main_v23, val_main_v22, val_main_v21, val_main_v20, val_main_v19, val_main_v18,
    val_main_call0_v1, val_main_call0_v2, val_main_call0_v0, val_main_cst_0, ofArrays]
  rw [bits_neg_inf]
  refine congrArg (fun f => Finset.fold max ⊥ f Finset.univ) (funext fun x => ?_)
  rw [select_word]
  refine congrArg (fun b => if (x1 (ix1 x)).toInt = (s.val : ℤ) then _ else b) ?_
  exact bits_neg_inf

end Cert.ReferenceIdeal.Bag
-- ==== Proof.RefPool.lean ====
/- The reference program's pooled rows and its normalised projection, read entry by entry. -/
module

public import proofs.«01_k».proof.Proof.RefScore
public import Idealize.ShloMosaic.Lib.Routing.OpsSet
public import Idealize.ShloMosaic.Lib.Routing.OpsPair

@[expose] public section

set_option maxRecDepth 16384

noncomputable section

open Idealize.ShloMosaic

namespace Cert.Bag

/-- A row of numbers sent through an affine map: the products summed, plus the offset. -/
def affine (P : Fin 16 → Fin 128 → EReal) (W : Fin 16 → Fin 128 → EReal) (b : Fin 16 → EReal) (s q : Fin 16) : EReal :=
  (∑ d, P s d * W q d) + b q

/-- The affine image of a row, each entry divided by the row's length (held above the least `1e-12`). -/
def project (P : Fin 16 → Fin 128 → EReal) (W : Fin 16 → Fin 128 → EReal) (b : Fin 16 → EReal) (s q : Fin 16) : EReal :=
  Ideal.div (affine P W b s q)
    (max (Ideal.sqrt (∑ p, affine P W b s p * affine P W b s p)) (Ideal.ofBits .f32 0x2B8CBCCC#32))

end Cert.Bag

namespace Cert.ReferenceIdeal.Bag

open Cert.ReferenceIdeal Cert.ReferenceIdeal.Gen Cert.ReferenceIdeal.Read Cert.Bag

/-- Where an update of the scatter into a vector lands: at the entry its index names. -/
theorem lands_vec (idx : IVec S32768x1 32) (i : Fin 32768) (s : Fin 16) :
    scatter_S16_S32768x1_S32768_n_0_0_1.resultIdx? (ix1 i) idx = some (ix1 s) ↔ (idx (ix2 i 0)).toInt = (s.val : ℤ) := by
  rw [Routing.resultIdx?_eq_some]
  have hst : scatter_S16_S32768x1_S32768_n_0_0_1.start (ix1 i) idx 0 = (idx (ix2 i 0)).toInt := by
    unfold ScatterDims.start
    rw [dif_pos (show (0 : Fin _) ∈ scatter_S16_S32768x1_S32768_n_0_0_1.scatterDimsToOperandDims from List.mem_singleton.2 rfl)]
    refine congrArg (fun k => (idx k).toInt) (funext fun b => ?_)
    match b with
    | ⟨0, _⟩ => rfl
    | ⟨1, _⟩ => rfl
  have hw : scatter_S16_S32768x1_S32768_n_0_0_1.window (ix1 i) 0 = 0 := rfl
  constructor
  · intro h
    have := h 0
    rw [hst, hw] at this
    simpa using this
  · intro h a
    match a with
    | ⟨0, _⟩ =>
      show scatter_S16_S32768x1_S32768_n_0_0_1.start (ix1 i) idx 0 + (scatter_S16_S32768x1_S32768_n_0_0_1.window (ix1 i) 0 : ℤ) = _
      rw [hst, hw, h]
      simp

/-- Where an update of the scatter of rows lands: in the row its index names, at its own column. -/
theorem lands_row (idx : IVec S32768x1 32) (i : Fin 32768) (e : Fin 128) (s : Fin 16) (d : Fin 128) :
    scatter_S16x128_S32768x1_S32768x128_1_0_0_1.resultIdx? (ix2 i e) idx = some (ix2 s d)
      ↔ (idx (ix2 i 0)).toInt = (s.val : ℤ) ∧ e = d := by
  rw [Routing.resultIdx?_eq_some]
  have hst : scatter_S16x128_S32768x1_S32768x128_1_0_0_1.start (ix2 i e) idx 0 = (idx (ix2 i 0)).toInt := by
    unfold ScatterDims.start
    rw [dif_pos (show (0 : Fin _) ∈ scatter_S16x128_S32768x1_S32768x128_1_0_0_1.scatterDimsToOperandDims from List.mem_singleton.2 rfl)]
    refine congrArg (fun k => (idx k).toInt) (funext fun b => ?_)
    match b with
    | ⟨0, _⟩ => rfl
    | ⟨1, _⟩ => rfl
  have hw : scatter_S16x128_S32768x1_S32768x128_1_0_0_1.window (ix2 i e) 0 = 0 := rfl
  have hst1 : scatter_S16x128_S32768x1_S32768x128_1_0_0_1.start (ix2 i e) idx 1 = 0 := rfl
  have hw1 : scatter_S16x128_S32768x1_S32768x128_1_0_0_1.window (ix2 i e) 1 = e.val := rfl
  constructor
  · intro h
    have h0 := h 0
    have h1 := h 1
    rw [hst, hw] at h0
    rw [hst1, hw1] at h1
    refine ⟨by simpa using h0, Fin.ext ?_⟩
    change (0 : ℤ) + (e.val : ℤ) = (d.val : ℤ) at h1
    omega
  · rintro ⟨h, rfl⟩ a
    match a with
    | ⟨0, _⟩ =>
      show scatter_S16x128_S32768x1_S32768x128_1_0_0_1.start (ix2 i e) idx 0 + (scatter_S16x128_S32768x1_S32768x128_1_0_0_1.window (ix2 i e) 0 : ℤ) = _
      rw [hst, hw, h]
      simp
    | ⟨1, _⟩ =>
      show scatter_S16x128_S32768x1_S32768x128_1_0_0_1.start (ix2 i e) idx 1 + (scatter_S16x128_S32768x1_S32768x128_1_0_0_1.window (ix2 i e) 1 : ℤ) = _
      rw [hst1, hw1]
      simp

/-- The scatter-sum into a vector, at a bag: the start value plus the updates whose index is the bag's number. -/
theorem scatter_vec (x : FVec Ideal S16 .f32) (idx : IVec S32768x1 32) (upd : FVec Ideal S32768 .f32) (s : Fin 16) :
    Host.scatterAdd scatter_S16_S32768x1_S32768_n_0_0_1 x idx upd (ix1 s)
      = x (ix1 s) + ∑ i ∈ Finset.univ.filter (fun i : Fin 32768 => (idx (ix2 i 0)).toInt = (s.val : ℤ)), upd (ix1 i) := by
  show Ideal.hostScatterAdd _ _ _ _ _ = _
  unfold Ideal.hostScatterAdd
  refine congrArg (x (ix1 s) + ·) ?_
  rw [Finset.sum_filter, Finset.sum_filter, sum_idx1]
  exact Finset.sum_congr rfl fun i _ => if_congr (lands_vec idx i s) rfl rfl

/-- The scatter-sum of rows, at a bag and a column: the start value plus that column of the updates whose index is the bag's number. -/
theorem scatter_rows (x : FVec Ideal S16x128 .f32) (idx : IVec S32768x1 32) (upd : FVec Ideal S32768x128 .f32) (s : Fin 16) (d : Fin 128) :
    Host.scatterAdd scatter_S16x128_S32768x1_S32768x128_1_0_0_1 x idx upd (ix2 s d)
      = x (ix2 s d) + ∑ i ∈ Finset.univ.filter (fun i : Fin 32768 => (idx (ix2 i 0)).toInt = (s.val : ℤ)), upd (ix2 i d) := by
  show Ideal.hostScatterAdd _ _ _ _ _ = _
  unfold Ideal.hostScatterAdd
  refine congrArg (x (ix2 s d) + ·) ?_
  rw [Finset.sum_filter, Finset.sum_filter, sum_idx2]
  refine Finset.sum_congr rfl fun i _ => ?_
  have : ∀ e : Fin 128, (if scatter_S16x128_S32768x1_S32768x128_1_0_0_1.resultIdx? (ix2 i e) idx = some (ix2 s d) then upd (ix2 i e) else (0 : EReal))
      = if e = d then (if (idx (ix2 i 0)).toInt = (s.val : ℤ) then upd (ix2 i d) else 0) else 0 := fun e => by
    by_cases h : (idx (ix2 i 0)).toInt = (s.val : ℤ) <;> by_cases h' : e = d
    · rw [if_pos ((lands_row idx i e s d).2 ⟨h, h'⟩), if_pos h', if_pos h, h']
    · rw [if_neg fun q => h' ((lands_row idx i e s d).1 q).2, if_neg h']
    · rw [if_neg fun q => h ((lands_row idx i e s d).1 q).1, if_pos h', if_neg h]
    · rw [if_neg fun q => h ((lands_row idx i e s d).1 q).1, if_neg h']
  rw [Finset.sum_congr rfl fun e _ => this e, Finset.sum_ite_eq' Finset.univ d, if_pos (Finset.mem_univ d)]

/-- The lookup by bag number in a vector, at a row whose index word reads as a bag number: the vector's entry there. -/
theorem lookup (x : FVec Ideal S16 .f32) (idx : IVec S32768x1 32) (i : Fin 32768) (s : Fin 16) (h : (idx (ix2 i 0)).toInt = (s.val : ℤ)) :
    Host.gather gather_S16_S32768x1_S32768_n_0_n_n_0_1_1 x idx (ix1 i) = x (ix1 s) :=
  Routing.gather_take1 gather_S16_S32768x1_S32768_n_0_n_n_0_1_1 rfl rfl rfl rfl x idx i s ((eq_word_iff _ s).2 h) (by decide)

variable (x0 : FVec Ideal S1x32768x512 .f32) (x1 : IVec S32768 32) (x2 : FVec Ideal S128x512 .f32)
    (x3 : FVec Ideal S128 .f32) (x4 : FVec Ideal S16x128 .f32) (x5 : FVec Ideal S16 .f32)
    (x6 : FVec Ideal S1x16 .f32) (x7 : FVec Ideal S1 .f32) (x8 : FVec Ideal S16x128 .f32) (x9 : FVec Ideal S16 .f32)

/-- The pattern of all zero bits is the number zero. -/
theorem bits_zero : Ideal.ofBits .f32 0x00000000#32 = (0 : EReal) := by
  simp [Ideal.ofBits, Ideal.ieee]

/-- A bag number's word is not negative, so wrapping leaves it. -/
theorem wrap_word : ∀ s : Fin 16, Scalar.select (IntOp.cmpi .slt (BitVec.ofNat 32 s.val) 0#32)
    (IntOp.addi (BitVec.ofNat 32 s.val) 16#32) (BitVec.ofNat 32 s.val) = BitVec.ofNat 32 s.val := by decide

/-- The index with negative words wrapped is the index itself where it names a bag. -/
theorem wrapped (i : Fin 32768) (s : Fin 16) (h : (x1 (ix1 i)).toInt = (s.val : ℤ)) :
    val_main_v32 (F := Ideal) x1 (ix2 i 0) = x1 (ix1 i) := by
  have hw := (eq_word_iff _ s).2 h
  pointwise [val_main_v32, val_main_v31, val_main_v30, val_main_v29, val_main_v28, val_main_v27, val_main_c, val_main_c_1]
  rw [hw]
  exact wrap_word s

/-- The lookup of the sums wraps the index in the same way. -/
theorem wrapped' : val_main_v44 (F := Ideal) x1 = val_main_v32 (F := Ideal) x1 := rfl

/-- The exponential weight of a row of bag `s`: of its score less the bag's greatest. -/
theorem exp_read (i : Fin 32768) (s : Fin 16) (h : (x1 (ix1 i)).toInt = (s.val : ℤ)) :
    val_main_v35 (F := Ideal) x0 x1 x2 x3 x4 x5 x6 x7 (ix1 i)
      = Ideal.exp (rScore (ofArrays x0 x1 x2 x3 x4 x5 x6 x7) i - rMax (ofArrays x0 x1 x2 x3 x4 x5 x6 x7) s) := by
  have hg : val_main_v33 (F := Ideal) x0 x1 x2 x3 x4 x5 x6 x7 (ix1 i) = val_main_v26 (F := Ideal) x0 x1 x2 x3 x4 x5 x6 x7 (ix1 s) :=
    lookup _ _ i s (by rw [wrapped x1 i s h]; exact h)
  rw [← max_read, ← hg, ← score_read]
  rfl

/-- The sum of the exponential weights of a bag. -/
theorem den_read (s : Fin 16) :
    val_main_v38 (F := Ideal) x0 x1 x2 x3 x4 x5 x6 x7 (ix1 s) = rDen (ofArrays x0 x1 x2 x3 x4 x5 x6 x7) s := by
  unfold val_main_v38
  rw [scatter_vec]
  have hz : val_main_v36 (F := Ideal) (ix1 s) = 0 := bits_zero
  rw [hz, zero_add]
  unfold rDen
  have hi : ∀ i : Fin 32768, val_main_v37 (F := Ideal) x1 (ix2 i 0) = x1 (ix1 i) := fun i => by pointwise [val_main_v37]
  simp only [hi]
  exact Finset.sum_congr rfl fun i hm => exp_read x0 x1 x2 x3 x4 x5 x6 x7 i s (Finset.mem_filter.1 hm).2

/-- The normalised weight of a row of bag `s`. -/
theorem weight_read (i : Fin 32768) (s : Fin 16) (h : (x1 (ix1 i)).toInt = (s.val : ℤ)) :
    val_main_v46 (F := Ideal) x0 x1 x2 x3 x4 x5 x6 x7 (ix1 i)
      = Ideal.div (Ideal.exp (rScore (ofArrays x0 x1 x2 x3 x4 x5 x6 x7) i - rMax (ofArrays x0 x1 x2 x3 x4 x5 x6 x7) s))
          (rDen (ofArrays x0 x1 x2 x3 x4 x5 x6 x7) s) := by
  have hg : val_main_v45 (F := Ideal) x0 x1 x2 x3 x4 x5 x6 x7 (ix1 i) = val_main_v38 (F := Ideal) x0 x1 x2 x3 x4 x5 x6 x7 (ix1 s) :=
    lookup _ _ i s (by rw [wrapped' x1, wrapped x1 i s h]; exact h)
  rw [val_main_v46_apply, hg, exp_read x0 x1 x2 x3 x4 x5 x6 x7 i s h, den_read]
  rfl

/-- The pooled row of a bag. -/
theorem pool_read (s : Fin 16) (d : Fin 128) :
    val_main_v52 (F := Ideal) x0 x1 x2 x3 x4 x5 x6 x7 (ix2 s d) = rPool (ofArrays x0 x1 x2 x3 x4 x5 x6 x7) s d := by
  unfold val_main_v52
  rw [scatter_rows]
  have hz : val_main_v50 (F := Ideal) (ix2 s d) = 0 := bits_zero
  rw [hz, zero_add]
  unfold rPool
  have hi : ∀ i : Fin 32768, val_main_v51 (F := Ideal) x1 (ix2 i 0) = x1 (ix1 i) := fun i => by pointwise [val_main_v51]
  simp only [hi]
  refine Finset.sum_congr rfl fun i hm => ?_
  have hm' := (Finset.mem_filter.1 hm).2
  rw [← weight_read x0 x1 x2 x3 x4 x5 x6 x7 i s hm', ← hid_read]
  have hb : val_main_v48 (F := Ideal) x0 x1 x2 x3 x4 x5 x6 x7 (ix2 i d) = val_main_v46 (F := Ideal) x0 x1 x2 x3 x4 x5 x6 x7 (ix1 i) := by
    pointwise [val_main_v48, val_main_v47]
  rw [← hb]
  rfl

/-- The normalised projection, over the pooled rows. -/
theorem proj_read (s q : Fin 16) :
    val_main_v62 (F := Ideal) x0 x1 x2 x3 x4 x5 x6 x7 x8 x9 (ix2 s q)
      = project (fun s d => val_main_v52 (F := Ideal) x0 x1 x2 x3 x4 x5 x6 x7 (ix2 s d)) (fun p d => x8 (ix2 p d)) (fun p => x9 (ix1 p)) s q := by
  unfold project affine
  pointwise [val_main_v62, val_main_v61, val_main_v60, val_main_v59, val_main_v58, val_main_call1_v2, val_main_call1_v1, val_main_call1_v0, val_main_v57, val_main_v56, val_main_v55, val_main_v54, val_main_v53]
  have hz : val_main_call1_cst (F := Ideal) (Shape.Idx.first h_S_) = 0 := bits_zero
  rw [hz, zero_add]
  rfl

end Cert.ReferenceIdeal.Bag
-- ==== Proof.KernelPay.lean ====
/- The expressions one grid point of the kernel evaluates, read entry by entry. -/
module

public import proofs.«01_k».proof.Proof.Gen.KernelIdeal.Skeleton
public import proofs.«01_k».proof.Proof.RefPool
public import Idealize.ShloMosaic.Lib.Pointwise

@[expose] public section

set_option maxRecDepth 16384

noncomputable section

namespace Cert.KernelIdeal.Bag

open Cert.KernelIdeal Cert.KernelIdeal.Gen Cert.Bag Idealize.ShloMosaic

/-- The columns of the combined weights that produce the feature rows. -/
abbrev colH (d : Fin 128) : Fin 144 := ⟨d.val, by omega⟩

/-- The columns of the combined weights that produce the attention arguments. -/
abbrev colU (f : Fin 16) : Fin 144 := ⟨128 + f.val, by omega⟩

variable (x : FVec Ideal S4096x512 .f32) (w : FVec Ideal S512x144 .bf16) (g : FVec Ideal S1x16 .f32)
  (v : FVec Ideal S1x16 .f32) (seg : FVec Ideal S4096x1 .f32)

/-- The feature row of a row of the block. -/
theorem pay12_at (i : Fin 4096) (d : Fin 128) :
    k0_pay12 (F := Ideal) x w (ix2 i d) = ∑ j, x (ix2 i j) * w (ix2 j (colH d)) := by
  pointwise [k0_pay12, k0_pay11]

/-- The number of a lane, as a value. -/
theorem lane (s : Fin 16) : FloatOps.sitofp (F := Ideal) .f32 (BitVec.ofNat 32 s.val) = ((s.val : ℝ) : EReal) := by
  show (((BitVec.ofNat 32 s.val).toInt : ℝ) : EReal) = _
  rw [(ReferenceIdeal.Bag.eq_word_iff _ s).1 rfl]
  rfl

/-- The masked weight of a row of the block for a bag. -/
theorem pay13_at (i : Fin 4096) (s : Fin 16) :
    k0_pay13 (F := Ideal) x w g v seg (ix2 i s)
      = if seg (ix2 i 0) = ((s.val : ℝ) : EReal) then
          Ideal.exp (∑ f, Ideal.tanh ((∑ j, x (ix2 i j) * w (ix2 j (colU f))) + g (ix2 0 f)) * v (ix2 0 f)) else 0 := by
  pointwise [k0_pay13, k0_pay11]
  rw [lane]

/-- The running sum of weights after the block. -/
theorem pay14_at (a : FVec Ideal S1x16 .f32) (s : Fin 16) :
    k0_pay14 (F := Ideal) x w g v seg a (ix2 0 s) = a (ix2 0 s) + ∑ i, k0_pay13 (F := Ideal) x w g v seg (ix2 i s) := by
  pointwise [k0_pay14]

/-- The running weighted sum of feature rows after the block. -/
theorem pay1_at (h : FVec Ideal S4096x128 .f32) (e : FVec Ideal S4096x16 .f32) (a : FVec Ideal S128x16 .f32) (d : Fin 128) (s : Fin 16) :
    k0_pay1 (F := Ideal) h e a (ix2 d s) = a (ix2 d s) + ∑ i, h (ix2 i d) * e (ix2 i s) := by
  pointwise [k0_pay1]

/-- The sums start at zero. -/
theorem pay5_at (d : Fin 128) (s : Fin 16) : k0_pay5 (F := Ideal) (ix2 d s) = 0 := ReferenceIdeal.Bag.bits_zero

/-- The sums of weights start at zero. -/
theorem pay6_at (s : Fin 16) : k0_pay6 (F := Ideal) (ix2 0 s) = 0 := ReferenceIdeal.Bag.bits_zero

variable (wf : FVec Ideal S128x512 .f32) (wa : FVec Ideal S16x128 .f32) (bf : FVec Ideal S1x128 .f32)

/-- The feature weights, transposed. -/
theorem pay8_at (j : Fin 512) (d : Fin 128) : k0_pay8 (F := Ideal) wf (ix2 j d) = wf (ix2 d j) := by
  pointwise [k0_pay8, k0_pay7]

/-- The feature weights folded with the attention weights. -/
theorem pay9_at (j : Fin 512) (f : Fin 16) :
    k0_pay9 (F := Ideal) wf wa (ix2 j f) = ∑ k, wf (ix2 k j) * wa (ix2 f k) := by
  pointwise [k0_pay9, k0_pay7]

/-- The offset folded with the attention weights. -/
theorem pay10_at (f : Fin 16) : k0_pay10 (F := Ideal) bf wa (ix2 0 f) = ∑ k, bf (ix2 0 k) * wa (ix2 f k) := by
  pointwise [k0_pay10]

variable (den : FVec Ideal S1x16 .f32) (num : FVec Ideal S128x16 .f32) (wp : FVec Ideal S16x128 .f32) (bp : FVec Ideal S1x16 .f32)

/-- The pooled row: weighted sum over sum of weights, plus the offset. -/
theorem pay3_at (s : Fin 16) (d : Fin 128) :
    k0_pay3 (F := Ideal) den num bf (ix2 s d)
      = Ideal.div (num (ix2 d s)) (max (den (ix2 0 s)) (Ideal.ofBits .f32 0x0DA24260#32)) + bf (ix2 0 d) := by
  pointwise [k0_pay3, k0_pay2]

/-- The normalised projection of the pooled rows. -/
theorem pay4_at (s q : Fin 16) :
    k0_pay4 (F := Ideal) den num bf wp bp (ix2 s q)
      = project (fun s d => k0_pay3 (F := Ideal) den num bf (ix2 s d)) (fun p d => wp (ix2 p d)) (fun p => bp (ix2 0 p)) s q := by
  unfold project affine
  pointwise [k0_pay4, k0_pay3, k0_pay2]

end Cert.KernelIdeal.Bag
-- ==== Proof.KernelStep.lean ====
/- What each grid point of the kernel leaves in its carried arrays and outputs, as the body's own expressions over its blocks. -/
module

public import proofs.«01_k».proof.Proof.Gen.KernelIdeal.Value
public import proofs.«01_k».proof.Proof.KernelPay
public import Idealize.ShloMosaic.Lib.Pipeline.ValueKit
public import Idealize.ShloMosaic.Lib.Pipeline.ReadBack

@[expose] public section

set_option maxRecDepth 16384

noncomputable section

namespace Cert.KernelIdeal.Bag

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The running weighted sums after a grid point. -/
def num (c : Dev nD) (t : Fin cfg0.N) : FVec Ideal S128x16 .f32 := (outsAt0 (F := Ideal) m c t.val t.isLt).2.2.1
/-- The running sums of weights after a grid point. -/
def den (c : Dev nD) (t : Fin cfg0.N) : FVec Ideal S1x16 .f32 := (outsAt0 (F := Ideal) m c t.val t.isLt).2.2.2.1
/-- The combined weights after a grid point. -/
def wts (c : Dev nD) (t : Fin cfg0.N) : FVec Ideal S512x144 .bf16 := (outsAt0 (F := Ideal) m c t.val t.isLt).2.2.2.2.1
/-- The folded offset after a grid point. -/
def off (c : Dev nD) (t : Fin cfg0.N) : FVec Ideal S1x16 .f32 := (outsAt0 (F := Ideal) m c t.val t.isLt).2.2.2.2.2

/-- The weighted sums after a block: the block's added to `a`, with weights `w` and offset `g`. -/
abbrev numStep (c : Dev nD) (t : Fin cfg0.N) (w : FVec Ideal S512x144 .bf16) (g : FVec Ideal S1x16 .f32) (a : FVec Ideal S128x16 .f32) :
    FVec Ideal S128x16 .f32 :=
  k0_pay1 (k0_pay12 (iblk m c 0 t) w) (k0_pay13 (iblk m c 0 t) w g (iblk m c 5 t) (iblk m c 1 t)) a

/-- The sums of weights after a block: the block's added to `a`. -/
abbrev denStep (c : Dev nD) (t : Fin cfg0.N) (w : FVec Ideal S512x144 .bf16) (g : FVec Ideal S1x16 .f32) (a : FVec Ideal S1x16 .f32) :
    FVec Ideal S1x16 .f32 :=
  k0_pay14 (iblk m c 0 t) w g (iblk m c 5 t) (iblk m c 1 t) a

section first

variable (c : Dev nD) (t : Fin cfg0.N) (h0 : t.val % 8 = 0) (h1 : ¬t.val % 8 = 7)
include h0 h1

/-- The first point folds the offset. -/
theorem off_first : off m c t = k0_pay10 (F := Ideal) (iblk m c 3 t) (iblk m c 4 t) := by
  unfold off
  rw [outsAt0_A m c t h0 h1]
  frame_out

/-- The first point lays the transposed feature weights in the first 128 columns. -/
theorem wts_first (j : Fin 512) (q : Fin 144) : wts m c t (ix2 j q)
    = if h : q.val < 128 then k0_pay8 (F := Ideal) (iblk m c 2 t) (ix2 j ⟨q.val, h⟩)
      else k0_pay9 (F := Ideal) (iblk m c 2 t) (iblk m c 4 t) (ix2 j ⟨q.val - 128, by omega⟩) := by
  unfold wts
  rw [outsAt0_A m c t h0 h1]
  frame_out
  by_cases h : q.val < 128
  · rw [dif_pos h, View.canon_cons_of_not_mem]
    · have e : (ix2 j q : S512x144.Idx) = (Rect.unit (s := S512x144) ![0, 0] ![512, 128] inb_S512x144_S512x128_0_0).emb (ix2 j ⟨q.val, h⟩) :=
        funext fun a => Fin.ext (by fin_cases a <;> simp)
      rw [e]
      exact View.canon_cons_emb _ _ _ _
    · intro hm
      obtain ⟨x, hx⟩ := (Rect.unit (s := S512x144) ![0, 128] ![512, 16] inb_S512x144_S512x16_0_128).exists_idx_of_mem hm
      have h1 : 128 + 1 * (x 1).val = q.val := congrArg (fun y : S512x144.Idx => (y 1).val) hx
      omega
  · rw [dif_neg h]
    have e : (ix2 j q : S512x144.Idx) = (Rect.unit (s := S512x144) ![0, 128] ![512, 16] inb_S512x144_S512x16_0_128).emb (ix2 j ⟨q.val - 128, by omega⟩) :=
      funext fun a => Fin.ext (by fin_cases a <;> simp <;> omega)
    rw [e]
    exact View.canon_cons_emb _ _ _ _

/-- The first point's sums start from zero. -/
theorem sums_first : num m c t = numStep m c t (wts m c t) (off m c t) k0_pay5
    ∧ den m c t = denStep m c t (wts m c t) (off m c t) k0_pay6 := by
  rw [off_first m c t h0 h1]
  unfold num den wts
  rw [outsAt0_A m c t h0 h1]
  frame_out
  have hz : (![0, 0] : Fin 2 → Nat) = fun _ => 0 := funext fun a => by fin_cases a <;> rfl
  have key : ∀ L, (View.whole cc0_scratch2).readCov (Val := Elt Ideal) L (Rect.unit (s := S512x144) ![0, 0] ![512, 144] inb_S512x144_S512x144_0_0).toLoadRect = View.canon L :=
    fun L => (View.readCov_eq_canon' _ L _).trans (View.ld_unit_zero (S := S512x144) hz _ (View.canon L))
  rw [key]
  exact ⟨rfl, rfl⟩

end first

section later

variable (c : Dev nD) (t u : Fin cfg0.N) (hu : u.val = t.val - 1) (h0 : ¬t.val % 8 = 0)
include hu h0

/-- A later point adds its block to what the point before left. -/
theorem later : num m c t = numStep m c t (wts m c u) (off m c u) (num m c u)
    ∧ den m c t = denStep m c t (wts m c u) (off m c u) (den m c u) ∧ wts m c t = wts m c u ∧ off m c t = off m c u := by
  obtain ⟨u, hlt⟩ := u
  dsimp only at hu
  subst hu
  unfold num den wts off
  by_cases h1 : t.val % 8 = 7
  · rw [outsAt0_C m c t h0 h1]
    frame_out
    simp only [read_unread_whole, sout0_C_2, sout0_C_3, and_self]
  · rw [outsAt0_B m c t h0 h1]
    frame_out
    simp only [read_unread_whole, sout0_B_2, sout0_B_3, and_self]

/-- The last point writes the pooled rows and their projection, from the sums it has just completed. -/
theorem written (h1 : t.val % 8 = 7) :
    (outsAt0 (F := Ideal) m c t.val t.isLt).1 = k0_pay3 (F := Ideal) (den m c t) (num m c t) (iblk m c 3 t)
    ∧ (outsAt0 (F := Ideal) m c t.val t.isLt).2.1
      = k0_pay4 (F := Ideal) (den m c t) (num m c t) (iblk m c 3 t) (iblk m c 6 t) (iblk m c 7 t) := by
  obtain ⟨hn, hd, -, -⟩ := later m c t u hu h0
  rw [hn, hd]
  obtain ⟨u, hlt⟩ := u
  dsimp only at hu
  subst hu
  unfold num den wts off
  rw [outsAt0_C m c t h0 h1]
  frame_out
  simp only [read_unread_whole, and_self]

end later

end Cert.KernelIdeal.Bag
-- ==== Proof.Blocks.lean ====
/- The blocks a grid point of the kernel reads, as entries of the argument arrays. -/
module

public import proofs.«01_k».proof.Proof.KernelStep

@[expose] public section

set_option maxRecDepth 16384

noncomputable section

namespace Cert.KernelIdeal.Bag

open Cert.KernelIdeal Cert.KernelIdeal.Gen Cert.KernelIdeal.Value Cert.Bag Idealize.ShloMosaic Idealize.ShloMosaic.TcCoe Idealize.SL.Sem

variable (m : (ℓ : Loc nD τ sig) → Buf (Elt Ideal) ℓ)

/-- The arguments the launch was given, as the problem's numbers. -/
abbrev args (c : Dev nD) : Args :=
  ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Which block each input takes at a grid point: the rows and their bag numbers walk down, the rest stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] := (by decide +kernel : ∀ t : Fin grid0.N, _)

/-- The row of the whole array that is row `i` of block `t`. -/
def rowAt (t : Fin cfg0.N) (i : Fin 4096) : Fin 32768 := ⟨t.val * 4096 + i.val, by
  have := t.isLt; have := i.isLt; have : cfg0.N = 8 := N_0; omega⟩

variable (c : Dev nD) (t : Fin cfg0.N)

/-- The block's rows are the array's. -/
theorem blk_x (i : Fin 4096) (j : Fin 512) : (iblk m c 0 t : FVec Ideal S4096x512 .f32) (ix2 i j) = (args m c).X (rowAt t i) j := by
  unfold args ofArrays rowAt
  blk_simp [iblk, idx t]
  entry_read
  have e : ((View.whole main_v0).slice (win0_0.rect t)).emb (ix2 i j) = (ix2 ⟨t.val * 4096 + i.val, (rowAt t i).isLt⟩ j : S32768x512.Idx) := by
    blk_ext [idx t]
  rw [e]
  show shapeCast S32768x512 _ shapeCasts_S1x32768x512_S32768x512 (ix2 _ j) = _
  pointwise

/-- The block's bag numbers are the array's, as values. -/
theorem blk_seg (i : Fin 4096) : (iblk m c 1 t : FVec Ideal S4096x1 .f32) (ix2 i 0) = (((args m c).I (rowAt t i) : ℝ) : EReal) := by
  unfold args ofArrays rowAt
  blk_simp [iblk, idx t]
  entry_read
  have e : ((View.whole main_v2).slice (win0_1.rect t)).emb (ix2 i 0) = (ix2 ⟨t.val * 4096 + i.val, (rowAt t i).isLt⟩ 0 : S32768x1.Idx) := by
    blk_ext [idx t]
  rw [e]
  show shapeCast S32768x1 _ shapeCasts_S32768_S32768x1 (ix2 _ 0) = _
  pointwise
  rfl

/-- Every point reads the whole feature weights. -/
theorem blk_wf (j : Fin 512) (d : Fin 128) : (iblk m c 2 t : FVec Ideal S128x512 .f32) (ix2 d j) = (args m c).Wf d j := by
  unfold args ofArrays
  blk_ext [iblk, V, idx t]

/-- Every point reads the whole feature offset. -/
theorem blk_bf (d : Fin 128) : (iblk m c 3 t : FVec Ideal S1x128 .f32) (ix2 0 d) = (args m c).bf d := by
  unfold args ofArrays
  blk_simp [iblk, idx t]
  entry_read
  have e : ((View.whole main_v3).slice (win0_3.rect t)).emb (ix2 0 d) = (ix2 0 d : S1x128.Idx) := by
    blk_ext [idx t]
  rw [e]
  show shapeCast S1x128 _ shapeCasts_S128_S1x128 (ix2 0 d) = _
  pointwise

/-- Every point reads the whole attention weights. -/
theorem blk_wa (f : Fin 16) (k : Fin 128) : (iblk m c 4 t : FVec Ideal S16x128 .f32) (ix2 f k) = (args m c).Wa f k := by
  unfold args ofArrays
  blk_ext [iblk, V, idx t]

/-- Every point reads the whole score weights. -/
theorem blk_v (f : Fin 16) : (iblk m c 5 t : FVec Ideal S1x16 .f32) (ix2 0 f) = (args m c).wa f := by
  unfold args ofArrays
  blk_ext [iblk, V, idx t]

/-- Every point reads the whole projection weights. -/
theorem blk_wp (q : Fin 16) (d : Fin 128) : (iblk m c 6 t : FVec Ideal S16x128 .f32) (ix2 q d) = m ((c : Thread nD τ).loc main_arg8) (ix2 q d) := by
  blk_ext [iblk, V, idx t]

/-- Every point reads the whole projection offset. -/
theorem blk_bp (q : Fin 16) : (iblk m c 7 t : FVec Ideal S1x16 .f32) (ix2 0 q) = m ((c : Thread nD τ).loc main_arg9) (ix1 q) := by
  blk_simp [iblk, idx t]
  entry_read
  have e : ((View.whole main_v4).slice (win0_7.rect t)).emb (ix2 0 q) = (ix2 0 q : S1x16.Idx) := by
    blk_ext [idx t]
  rw [e]
  show shapeCast S1x16 _ shapeCasts_S16_S1x16 (ix2 0 q) = _
  pointwise

end Cert.KernelIdeal.Bag
-- ==== Proof.KernelFold.lean ====
/- What the kernel's carried arrays hold after each grid point, and the pooled rows and projection it writes at the last one. -/
module

public import proofs.«01_k».proof.Proof.Blocks

@[expose] public section

set_option maxRecDepth 16384

noncomputable section

namespace Cert.KernelIdeal.Bag

open Cert.KernelIdeal Cert.KernelIdeal.Gen Cert.KernelIdeal.Value Cert.Bag Idealize.ShloMosaic Idealize.ShloMosaic.TcCoe Idealize.SL.Sem

variable (m : (ℓ : Loc nD τ sig) → Buf (Elt Ideal) ℓ) (c : Dev nD)

/-- The combined weights hold the transposed feature weights, and beside them their products with the attention weights. -/
structure Prepared (w : FVec Ideal S512x144 .bf16) (g : FVec Ideal S1x16 .f32) : Prop where
  feat : ∀ j d, w (ix2 j (colH d)) = (args m c).Wf d j
  attn : ∀ j f, w (ix2 j (colU f)) = comb (args m c) j f
  offs : ∀ f, g (ix2 0 f) = gOff (args m c) f

variable {m c}

/-- The block's feature rows. -/
theorem hid_block {w : FVec Ideal S512x144 .bf16} {g : FVec Ideal S1x16 .f32} (hp : Prepared m c w g) (t : Fin cfg0.N) (i : Fin 4096) (d : Fin 128) :
    k0_pay12 (F := Ideal) (iblk m c 0 t) w (ix2 i d) = hid (args m c) (rowAt t i) d := by
  rw [pay12_at]
  unfold hid
  exact Finset.sum_congr rfl fun j _ => congrArg₂ (· * ·) (blk_x m c t i j) (hp.feat j d)

/-- The block's masked weights. -/
theorem weight_block {w : FVec Ideal S512x144 .bf16} {g : FVec Ideal S1x16 .f32} (hp : Prepared m c w g) (t : Fin cfg0.N) (i : Fin 4096) (s : Fin 16) :
    k0_pay13 (F := Ideal) (iblk m c 0 t) w g (iblk m c 5 t) (iblk m c 1 t) (ix2 i s) = kWeight (args m c) (rowAt t i) s := by
  rw [pay13_at]
  unfold kWeight kScore
  have hi : (iblk m c 1 t : FVec Ideal S4096x1 .f32) (ix2 i 0) = ((s.val : ℝ) : EReal) ↔ (args m c).I (rowAt t i) = (s.val : ℤ) := by
    rw [blk_seg m c t i, EReal.coe_eq_coe_iff]
    exact_mod_cast Iff.rfl
  refine if_congr hi (congrArg Ideal.exp (Finset.sum_congr rfl fun f _ => ?_)) rfl
  rw [hp.offs f]
  refine congrArg₂ (· * ·) (congrArg (fun z => Ideal.tanh (z + _)) ?_) (blk_v m c t f)
  exact Finset.sum_congr rfl fun j _ => congrArg₂ (· * ·) (blk_x m c t i j) (hp.attn j f)

/-- The weighted sums after a block: the block's rows are added. -/
theorem num_block {w : FVec Ideal S512x144 .bf16} {g : FVec Ideal S1x16 .f32} (hp : Prepared m c w g) (t : Fin cfg0.N)
    (a : FVec Ideal S128x16 .f32) (d : Fin 128) (s : Fin 16) :
    numStep m c t w g a (ix2 d s) = a (ix2 d s) + ∑ i, hid (args m c) (rowAt t i) d * kWeight (args m c) (rowAt t i) s := by
  unfold numStep
  rw [pay1_at]
  exact congrArg (a (ix2 d s) + ·) (Finset.sum_congr rfl fun i _ => congrArg₂ (· * ·) (hid_block hp t i d) (weight_block hp t i s))

/-- The sums of weights after a block: the block's rows are added. -/
theorem den_block {w : FVec Ideal S512x144 .bf16} {g : FVec Ideal S1x16 .f32} (hp : Prepared m c w g) (t : Fin cfg0.N)
    (a : FVec Ideal S1x16 .f32) (s : Fin 16) :
    denStep m c t w g a (ix2 0 s) = a (ix2 0 s) + ∑ i, kWeight (args m c) (rowAt t i) s := by
  unfold denStep
  rw [pay14_at]
  exact congrArg (a (ix2 0 s) + ·) (Finset.sum_congr rfl fun i _ => weight_block hp t i s)

/-- The first point prepares the weights. -/
theorem prepared_first (t : Fin cfg0.N) (h0 : t.val % 8 = 0) (h1 : ¬t.val % 8 = 7) : Prepared m c (wts m c t) (off m c t) where
  feat j d := by
    rw [wts_first m c t h0 h1, dif_pos d.isLt, pay8_at]
    exact blk_wf m c t j d
  attn j f := by
    rw [wts_first m c t h0 h1, dif_neg (by show ¬(128 + f.val < 128); omega)]
    have hq : ∀ h, (⟨(colU f).val - 128, h⟩ : Fin 16) = f := fun h => Fin.ext (by show 128 + f.val - 128 = f.val; omega)
    rw [hq, pay9_at]
    unfold comb
    exact Finset.sum_congr rfl fun k _ => congrArg₂ (· * ·) (blk_wf m c t j k) (blk_wa m c t f k)
  offs f := by
    rw [off_first m c t h0 h1, pay10_at]
    unfold gOff
    exact Finset.sum_congr rfl fun k _ => congrArg₂ (· * ·) (blk_bf m c t k) (blk_wa m c t f k)

/-- A quantity of the rows, summed over block `k` (nothing past the last block). -/
def blockSum (f : Fin 32768 → EReal) (k : ℕ) : EReal :=
  if h : k < cfg0.N then ∑ i, f (rowAt ⟨k, h⟩ i) else 0

/-- The sums over the eight blocks make the sum over the rows. -/
theorem sum_blocks (f : Fin 32768 → EReal) : ∑ k ∈ Finset.range 8, blockSum f k = ∑ i, f i := by
  have hN : cfg0.N = 8 := N_0
  rw [Finset.sum_range]
  have : ∀ k : Fin 8, blockSum f k.val = ∑ i : Fin 4096, f (finProdFinEquiv (m := 8) (n := 4096) (k, i)) := fun k => by
    unfold blockSum
    rw [dif_pos (by omega)]
    refine Finset.sum_congr rfl fun i _ => congrArg f (Fin.ext ?_)
    show k.val * 4096 + i.val = i.val + 4096 * k.val
    omega
  rw [Finset.sum_congr rfl fun k _ => this k, ← Fintype.sum_prod_type']
  exact (finProdFinEquiv (m := 8) (n := 4096)).sum_comp f

/-- After point `n` the weights are prepared and the sums hold the rows of the blocks so far. -/
theorem state : ∀ (n : ℕ) (hn : n < cfg0.N),
    Prepared m c (wts m c ⟨n, hn⟩) (off m c ⟨n, hn⟩)
    ∧ (∀ d s, num m c ⟨n, hn⟩ (ix2 d s)
        = ∑ k ∈ Finset.range (n + 1), blockSum (fun i => hid (args m c) i d * kWeight (args m c) i s) k)
    ∧ (∀ s, den m c ⟨n, hn⟩ (ix2 0 s) = ∑ k ∈ Finset.range (n + 1), blockSum (fun i => kWeight (args m c) i s) k)
  | 0, hn => by
    have hp := prepared_first (m := m) (c := c) ⟨0, hn⟩ rfl (by show ¬(0 % 8 = 7); decide)
    obtain ⟨hnum, hden⟩ := sums_first m c ⟨0, hn⟩ rfl (by show ¬(0 % 8 = 7); decide)
    refine ⟨hp, fun d s => ?_, fun s => ?_⟩
    · rw [hnum, num_block hp, pay5_at, zero_add, Finset.sum_range_one]
      unfold blockSum
      rw [dif_pos hn]
    · rw [hden, den_block hp, pay6_at, zero_add, Finset.sum_range_one]
      unfold blockSum
      rw [dif_pos hn]
  | n + 1, hn => by
    have hN : cfg0.N = 8 := N_0
    obtain ⟨hp, ihn, ihd⟩ := state n (by omega)
    obtain ⟨hnum, hden, hw, ho⟩ := later m c ⟨n + 1, hn⟩ ⟨n, by omega⟩ rfl (by show ¬(n + 1) % 8 = 0; omega)
    refine ⟨by rw [hw, ho]; exact hp, fun d s => ?_, fun s => ?_⟩
    · rw [hnum, num_block hp, ihn, Finset.sum_range_succ _ (n + 1)]
      congr 1
      unfold blockSum
      rw [dif_pos hn]
    · rw [hden, den_block hp, ihd, Finset.sum_range_succ _ (n + 1)]
      congr 1
      unfold blockSum
      rw [dif_pos hn]

/-- The sums after the last point: over all the rows. -/
theorem total (h : 7 < cfg0.N) :
    (∀ d s, num m c ⟨7, h⟩ (ix2 d s) = kNum (args m c) d s) ∧ (∀ s, den m c ⟨7, h⟩ (ix2 0 s) = kDen (args m c) s) := by
  obtain ⟨-, hn, hd⟩ := state (m := m) (c := c) 7 h
  exact ⟨fun d s => (hn d s).trans (sum_blocks _), fun s => (hd s).trans (sum_blocks _)⟩

/-- The last point writes the pooled rows. -/
theorem pooled (h : 7 < cfg0.N) (s : Fin 16) (d : Fin 128) :
    ((outsAt0 (F := Ideal) m c 7 h).1 : FVec Ideal S16x128 .f32) (ix2 s d) = kPool (args m c) s d := by
  obtain ⟨hn, hd⟩ := total (m := m) (c := c) h
  rw [(written m c ⟨7, h⟩ ⟨6, by omega⟩ rfl (by show ¬(7 % 8 = 0); decide) rfl).1, pay3_at, hn, hd]
  unfold kPool
  rw [blk_bf m c ⟨7, h⟩ d]

/-- The last point writes the normalised projection of the pooled rows. -/
theorem projected (h : 7 < cfg0.N) (s q : Fin 16) :
    ((outsAt0 (F := Ideal) m c 7 h).2.1 : FVec Ideal S16x16 .f32) (ix2 s q)
      = project (kPool (args m c)) (fun p d => m ((c : Thread nD τ).loc main_arg8) (ix2 p d)) (fun p => m ((c : Thread nD τ).loc main_arg9) (ix1 p)) s q := by
  have hw := written m c ⟨7, h⟩ ⟨6, by omega⟩ rfl (by show ¬(7 % 8 = 0); decide) rfl
  have hP : (fun s d => k0_pay3 (F := Ideal) (den m c ⟨7, h⟩) (num m c ⟨7, h⟩) (iblk m c 3 ⟨7, h⟩) (ix2 s d)) = kPool (args m c) :=
    funext fun s => funext fun d => by rw [← hw.1]; exact pooled h s d
  rw [hw.2, pay4_at, hP]
  have e1 : (fun (p : Fin 16) (d : Fin 128) => (iblk m c 6 ⟨7, h⟩ : FVec Ideal S16x128 .f32) (ix2 p d)) = fun p d => m ((c : Thread nD τ).loc main_arg8) (ix2 p d) :=
    funext fun p => funext fun d => blk_wp m c ⟨7, h⟩ p d
  have e2 : (fun (p : Fin 16) => (iblk m c 7 ⟨7, h⟩ : FVec Ideal S1x16 .f32) (ix2 0 p)) = fun p => m ((c : Thread nD τ).loc main_arg9) (ix1 p) :=
    funext fun p => blk_bp m c ⟨7, h⟩ p
  rw [e1, e2]

end Cert.KernelIdeal.Bag
-- ==== Proof.Domain.lean ====
/- What the precondition says of the arguments: finite entries, small score weights, no attention offset, no empty bag. -/
module

public import proofs.«01_k».proof.Pre_served
public import proofs.«01_k».proof.Proof.RefScore
public import Idealize.ShloMosaic.Lib.Routing.OpsOrder

@[expose] public section

set_option maxRecDepth 16384

noncomputable section

namespace Cert.Pre_served.Bag

open Cert.Pre_served Cert.Bag Idealize.ShloMosaic

variable [hP : Cert.Pre_served.Facts]
variable (x0 : FVec Ideal S1x32768x512 .f32) (x1 : IVec S32768 32) (x2 : FVec Ideal S128x512 .f32)
    (x3 : FVec Ideal S128 .f32) (x4 : FVec Ideal S16x128 .f32) (x5 : FVec Ideal S16 .f32)
    (x6 : FVec Ideal S1x16 .f32) (x7 : FVec Ideal S1 .f32) (x8 : FVec Ideal S16x128 .f32) (x9 : FVec Ideal S16 .f32)

/-- A value whose absolute value is below the infinity is a number. -/
theorem real_of_lt (x : EReal) (h : BitVec.ofBool (decide (FloatOps.absf (F := Ideal) (φ := .f32) x < Ideal.ofBits .f32 0x7F800000#32)) = 1#1) : ∃ r : ℝ, x = r := by
  have hi : Ideal.ofBits .f32 0x7F800000#32 = (⊤ : EReal) := by simp [Ideal.ofBits, Ideal.ieee]
  rw [hi] at h
  have h' : FloatOps.absf (F := Ideal) (φ := .f32) x < (⊤ : EReal) := by
    by_contra hn
    simp [hn] at h
  induction x with
  | bot => exact absurd h' (by simp [FloatOps.absf])
  | top => exact absurd h' (by simp [FloatOps.absf])
  | coe r => exact ⟨r, rfl⟩

/-- A value whose absolute value is at most four is a number of absolute value at most four. -/
theorem small_of_le (x : EReal) (h : BitVec.ofBool (decide (FloatOps.absf (F := Ideal) (φ := .f32) x ≤ Ideal.ofBits .f32 0x40800000#32)) = 1#1) :
    ∃ r : ℝ, x = r ∧ |r| ≤ 4 := by
  have hi : Ideal.ofBits .f32 0x40800000#32 = ((4 : ℝ) : EReal) := by
    simp [Ideal.ofBits, Ideal.ieee, -EReal.coe_mul]; norm_num
  rw [hi] at h
  have h' : FloatOps.absf (F := Ideal) (φ := .f32) x ≤ ((4 : ℝ) : EReal) := by
    by_contra hn
    simp [hn] at h
  induction x with
  | bot => exact absurd h' (by simp [FloatOps.absf])
  | top => exact absurd h' (by simp [FloatOps.absf])
  | coe r =>
    refine ⟨r, rfl, ?_⟩
    simp [FloatOps.absf] at h'
    have h2 : -r ≤ 4 := by
      have := h'.2
      rw [← EReal.coe_neg] at this
      exact EReal.coe_le_coe_iff.1 this
    exact abs_le.2 ⟨by linarith, h'.1⟩

/-- Arguments meeting the precondition are in the domain on which the two programs agree. -/
theorem fine
    (h0 : (fn (F := Ideal) x0 x1 x2 x3 x4 x5 x6 x7 x8 x9).1 = fun _ => 1#1)
    (h1 : (fn (F := Ideal) x0 x1 x2 x3 x4 x5 x6 x7 x8 x9).2.1 = fun _ => 1#1)
    (h2 : (fn (F := Ideal) x0 x1 x2 x3 x4 x5 x6 x7 x8 x9).2.2.1 = fun _ => 1#1)
    (h3 : (fn (F := Ideal) x0 x1 x2 x3 x4 x5 x6 x7 x8 x9).2.2.2.1 = fun _ => 1#1)
    (h4 : (fn (F := Ideal) x0 x1 x2 x3 x4 x5 x6 x7 x8 x9).2.2.2.2.1 = fun _ => 1#1)
    (h5 : (fn (F := Ideal) x0 x1 x2 x3 x4 x5 x6 x7 x8 x9).2.2.2.2.2.1 = fun _ => 1#1)
    (h6 : (fn (F := Ideal) x0 x1 x2 x3 x4 x5 x6 x7 x8 x9).2.2.2.2.2.2.1 = fun _ => 1#1)
    (h7 : (fn (F := Ideal) x0 x1 x2 x3 x4 x5 x6 x7 x8 x9).2.2.2.2.2.2.2 = fun _ => 1#1) :
    Fine (ofArrays x0 x1 x2 x3 x4 x5 x6 x7) where
  X i j := by
    have h := congrFun h0 (ix3 0 i j)
    revert h
    unfold fn fn_part1
    pointwise
    exact real_of_lt _
  Wf d j := by
    have h := congrFun h1 (ix2 d j)
    revert h
    unfold fn fn_part1
    pointwise
    exact real_of_lt _
  bf d := by
    have h := congrFun h2 (ix1 d)
    revert h
    unfold fn fn_part1
    pointwise
    exact real_of_lt _
  Wa f k := by
    have h := congrFun h3 (ix2 f k)
    revert h
    unfold fn fn_part1
    pointwise
    exact real_of_lt _
  b2 := by
    have h := congrFun h4 (ix1 0)
    revert h
    unfold fn fn_part1
    pointwise
    exact real_of_lt _
  wa f := by
    have h := congrFun h5 (ix2 0 f)
    revert h
    unfold fn fn_part1
    pointwise
    exact small_of_le _
  ba f := by
    have h := congrFun h6 (ix1 f)
    revert h
    unfold fn fn_part1
    pointwise
    intro h
    by_contra hn
    change ¬(x5 (ix1 f) = 0) at hn
    simp [hn] at h
  bag s := by
    have h := congrFun h7 (ix1 s)
    revert h
    unfold fn fn_part1
    pointwise
    intro h
    obtain ⟨i, -, hi⟩ := (Routing.fold_ori _ _).1 h
    refine ⟨i, (ReferenceIdeal.Bag.eq_word_iff _ s).1 ?_⟩
    by_contra hn
    have hb : (x1 (ix1 i) == BitVec.ofNat 32 s.val) = false := beq_eq_false_iff_ne.2 hn
    simp only [IntOp.cmpi, hb] at hi
    exact absurd hi (by decide)

end Cert.Pre_served.Bag
-- ==== Proof.Equation.lean ====
/- The equation: on the domain of the precondition the arrays the kernel leaves are the arrays the reference computes. -/
module

public import proofs.«01_k».proof.Proof.KernelFold
public import proofs.«01_k».proof.Proof.RefPool
public import proofs.«01_k».proof.Proof.Domain

@[expose] public section

set_option maxRecDepth 16384

noncomputable section

namespace Cert.KernelIdeal.Bag

open Cert.KernelIdeal Cert.KernelIdeal.Gen Cert.KernelIdeal.Value Cert.Bag Idealize.ShloMosaic Idealize.ShloMosaic.TcCoe Idealize.SL.Sem

variable (m : (ℓ : Loc nD τ sig) → Buf (Elt Ideal) ℓ) (c : Dev nD)

/-- What the reference's first result is of the kernel's arguments. -/
abbrev refPool : FVec Ideal S16x128 .f32 := ReferenceIdeal.Read.val_main_v52 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7))

/-- What the reference's second result is of the kernel's arguments. -/
abbrev refProj : FVec Ideal S16x16 .f32 := ReferenceIdeal.Read.val_main_v62 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9))

variable {m c}

/-- The pooled rows agree. -/
theorem out_pool (hA : Fine (args m c)) : G8 m c = refPool m c := by
  have h7 : 7 < cfg0.N := lt_of_lt_of_eq (by decide) N_0.symm
  rw [G8_last, ← outsAt0_sweep m c 7 h7]
  funext y
  have hy : y = (ix2 (y 0) (y 1) : S16x128.Idx) := eq_ix2 y
  rw [hy]
  exact (pooled h7 (y 0) (y 1)).trans ((kPool_eq _ hA (y 0) (y 1)).trans (ReferenceIdeal.Bag.pool_read _ _ _ _ _ _ _ _ (y 0) (y 1)).symm)

/-- The normalised projections agree. -/
theorem out_proj (hA : Fine (args m c)) : G9 m c = refProj m c := by
  have h7 : 7 < cfg0.N := lt_of_lt_of_eq (by decide) N_0.symm
  rw [G9_last, ← outsAt0_sweep m c 7 h7]
  funext y
  have hy : y = (ix2 (y 0) (y 1) : S16x16.Idx) := eq_ix2 y
  rw [hy]
  refine (projected h7 (y 0) (y 1)).trans (Eq.trans ?_ (ReferenceIdeal.Bag.proj_read _ _ _ _ _ _ _ _ _ _ (y 0) (y 1)).symm)
  refine congrArg (fun P => project P _ _ (y 0) (y 1)) (funext fun s => funext fun d => ?_)
  exact (kPool_eq _ hA s d).trans (ReferenceIdeal.Bag.pool_read _ _ _ _ _ _ _ _ s d).symm

end Cert.KernelIdeal.Bag
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_served
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Arguments meeting the precondition are in the domain on which the two programs agree, on every device. -/
theorem domain (m : (ℓ : Loc Cert.KernelIdeal.nD Cert.KernelIdeal.τ Cert.KernelIdeal.sig) → Buf (Elt Ideal) ℓ)
    (h : Cert.Pre_KernelIdeal_served m) (c : Dev Cert.KernelIdeal.nD) : Cert.Bag.Fine (Cert.KernelIdeal.Bag.args m c) := by
  obtain ⟨h0, h1, h2, h3, h4, h5, h6, h7⟩ := h c
  exact Cert.Pre_served.Bag.fine _ _ _ _ _ _ _ _ _ _ h0 h1 h2 h3 h4 h5 h6 h7

/-- The reference runs to its end, keeps its arguments and leaves every counter at zero. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0) := by
  exact (θ_run Cert.ReferenceIdeal.defs _ _).mono (fun r h => ⟨fun c => (h c).2.2, Idealize.ShloMosaic.sem_eq_zero_of_no_sems (by decide) r.2⟩)
    (Cert.ReferenceIdeal.Value.run (F := Ideal) m g)

/-- Under the precondition, from equal arguments, the kernel and the reference leave the same two arrays and keep their arguments. -/
theorem equal : Cert.algebraic_KernelIdeal_ReferenceIdeal_pre_served := by
  intro m g m' g' hpre hargs
  refine ⟨fun c => Cert.KernelIdeal.Bag.refPool m c, fun c => Cert.KernelIdeal.Bag.refProj m c, ?_, ?_⟩
  · exact (θ_run Cert.KernelIdeal.defs _ _).mono (fun r h c => ⟨(h c).1.trans (Cert.KernelIdeal.Bag.out_pool (domain m hpre c)),
      (h c).2.1.trans (Cert.KernelIdeal.Bag.out_proj (domain m hpre c)), (h c).2.2⟩) (Cert.KernelIdeal.Value.run (F := Ideal) m g)
  · refine (θ_run Cert.ReferenceIdeal.defs _ _).mono (fun r h c => ?_) (Cert.ReferenceIdeal.Value.run (F := Ideal) m' g')
    obtain ⟨r0, r1, rest⟩ := h c
    obtain ⟨a0, a1, a2, a3, a4, a5, a6, a7, a8, a9⟩ := hargs c
    refine ⟨r0.trans ?_, r1.trans ?_, rest⟩
    · rw [Cert.ReferenceIdeal.Read.val_main_v52_eq, a0, a1, a2, a3, a4, a5, a6, a7]
    · rw [Cert.ReferenceIdeal.Read.val_main_v62_eq, a0, a1, a2, a3, a4, a5, a6, a7, a8, a9]

/-- All the claims. -/
theorem claim : Cert.Claim :=
  ⟨Cert.Kernel.Gen.facts, Cert.KernelIdeal.Gen.facts, Cert.ReferenceIdeal.Gen.facts, Cert.Pre_served.Gen.facts,
    fun m ρ _ => Cert.Kernel.Gen.frame m ρ, fun m ρ _ => Cert.KernelIdeal.Gen.frame m ρ, fun m ρ _ => Cert.KernelIdeal.Gen.frame m ρ,
    fun m ρ _ => frame_ref m ρ, fun m ρ _ => frame_ref m ρ, trivial, equal⟩

end Cert.Proof

end
